-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)) (v2 : (c : Dev Cert.Kernel3Ideal.nD) → Buf (Elt Ideal) ((c.tc : Thread Cert.Kernel3Ideal.nD Cert.Kernel3Ideal.τ).loc Cert.Kernel3Ideal.main_v16_2)) (v3 : (c : Dev Cert.Kernel3Ideal.nD) → Buf (Elt Ideal) ((c.tc : Thread Cert.Kernel3Ideal.nD Cert.Kernel3Ideal.τ).loc Cert.Kernel3Ideal.main_v16_3)) (v4 : (c : Dev Cert.Kernel3Ideal.nD) → Buf (Elt Ideal) ((c.tc : Thread Cert.Kernel3Ideal.nD Cert.Kernel3Ideal.τ).loc Cert.Kernel3Ideal.main_v16_4)) (v5 : (c : Dev Cert.Kernel3Ideal.nD) → Buf (Elt Ideal) ((c.tc : Thread Cert.Kernel3Ideal.nD Cert.Kernel3Ideal.τ).loc Cert.Kernel3Ideal.main_v16_5)) (v6 : (c : Dev Cert.Kernel3Ideal.nD) → Buf (Elt Ideal) ((c.tc : Thread Cert.Kernel3Ideal.nD Cert.Kernel3Ideal.τ).loc Cert.Kernel3Ideal.main_v16_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_v16_2) = v2 c
          ∧ r.2.mem ((c.tc : Thread Cert.Kernel3Ideal.nD Cert.Kernel3Ideal.τ).loc Cert.Kernel3Ideal.main_v16_3) = v3 c
          ∧ r.2.mem ((c.tc : Thread Cert.Kernel3Ideal.nD Cert.Kernel3Ideal.τ).loc Cert.Kernel3Ideal.main_v16_4) = v4 c
          ∧ r.2.mem ((c.tc : Thread Cert.Kernel3Ideal.nD Cert.Kernel3Ideal.τ).loc Cert.Kernel3Ideal.main_v16_5) = v5 c
          ∧ r.2.mem ((c.tc : Thread Cert.Kernel3Ideal.nD Cert.Kernel3Ideal.τ).loc Cert.Kernel3Ideal.main_v16_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_v22) = v2 c
          ∧ r.2.mem ((c.tc : Thread Cert.Reference3Ideal.nD Cert.Reference3Ideal.τ).loc Cert.Reference3Ideal.main_v23) = v3 c
          ∧ r.2.mem ((c.tc : Thread Cert.Reference3Ideal.nD Cert.Reference3Ideal.τ).loc Cert.Reference3Ideal.main_v24) = v4 c
          ∧ r.2.mem ((c.tc : Thread Cert.Reference3Ideal.nD Cert.Reference3Ideal.τ).loc Cert.Reference3Ideal.main_v20) = v5 c
          ∧ r.2.mem ((c.tc : Thread Cert.Reference3Ideal.nD Cert.Reference3Ideal.τ).loc Cert.Reference3Ideal.main_v25) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S8x8192x8x64 : Shape := ⟨4, ![8, 8192, 8, 64]⟩
abbrev S8x8192x8x32 : Shape := ⟨4, ![8, 8192, 8, 32]⟩
abbrev S8x8192x32 : Shape := ⟨3, ![8, 8192, 32]⟩
abbrev S_ : Shape := ⟨0, ![]⟩

class Facts : Prop where
  bcast_S_S8x8192x8x64 : S_.BroadcastsInDim S8x8192x8x64 (![] : Fin 0 → Fin S8x8192x8x64.rank)
  reducesTo_S8x8192x8x64_S_d0_1_2_3 : S8x8192x8x64.ReducesTo [0, 1, 2, 3] S_
  h_S_ : 0 < S_.numel
  bcast_S_S8x8192x8x32 : S_.BroadcastsInDim S8x8192x8x32 (![] : Fin 0 → Fin S8x8192x8x32.rank)
  reducesTo_S8x8192x8x32_S_d0_1_2_3 : S8x8192x8x32.ReducesTo [0, 1, 2, 3] S_
  bcast_S_S8x8192x32 : S_.BroadcastsInDim S8x8192x32 (![] : Fin 0 → Fin S8x8192x32.rank)
  reducesTo_S8x8192x32_S_d0_1_2 : S8x8192x32.ReducesTo [0, 1, 2] S_

variable [Facts]

def fn_part1 {F : FTy → Type} [FloatOps F] (main_v13 : IVec S_ 1) (main_v16 : IVec S8x8192x32 1) : IVec S_ 1 :=
  let main_c_5 : IVec S_ 1 := constantI S_ 1 1#1
  let main_v17 : IVec S_ 1 := (fun x v => Host.reduce IntOp.andi x v reducesTo_S8x8192x32_S_d0_1_2 h_S_) main_v16 main_c_5
  let main_v18 : IVec S_ 1 := andi main_v13 main_v17
  main_v18

def fn {F : FTy → Type} [FloatOps F] (main_arg0 : FVec F S8x8192x8x64 .f32) (main_arg1 : FVec F S8x8192x8x32 .f32) (main_arg2 : FVec F S8x8192x8x64 .f32) (main_arg3 : FVec F S8x8192x32 .f32) (main_arg4 : FVec F S8x8192x8x64 .f32) : IVec S_ 1 :=
  let main_v0 : FVec F S8x8192x8x64 .f32 := Host.absf main_arg0
  let main_cst : FVec F S_ .f32 := constant S_ .f32 0x7F800000#32
  let main_v1 : FVec F S8x8192x8x64 .f32 := broadcastInDim S8x8192x8x64 ![] bcast_S_S8x8192x8x64 main_cst
  let main_v2 : IVec S8x8192x8x64 1 := cmpf .olt main_v0 main_v1
  let main_c : IVec S_ 1 := constantI S_ 1 1#1
  let main_v3 : IVec S_ 1 := (fun x v => Host.reduce IntOp.andi x v reducesTo_S8x8192x8x64_S_d0_1_2_3 h_S_) main_v2 main_c
  let main_v4 : FVec F S8x8192x8x32 .f32 := Host.absf main_arg1
  let main_cst_0 : FVec F S_ .f32 := constant S_ .f32 0x7F800000#32
  let main_v5 : FVec F S8x8192x8x32 .f32 := broadcastInDim S8x8192x8x32 ![] bcast_S_S8x8192x8x32 main_cst_0
  let main_v6 : IVec S8x8192x8x32 1 := cmpf .olt main_v4 main_v5
  let main_c_1 : IVec S_ 1 := constantI S_ 1 1#1
  let main_v7 : IVec S_ 1 := (fun x v => Host.reduce IntOp.andi x v reducesTo_S8x8192x8x32_S_d0_1_2_3 h_S_) main_v6 main_c_1
  let main_v8 : IVec S_ 1 := andi main_v3 main_v7
  let main_v9 : FVec F S8x8192x8x64 .f32 := Host.absf main_arg2
  let main_cst_2 : FVec F S_ .f32 := constant S_ .f32 0x7F800000#32
  let main_v10 : FVec F S8x8192x8x64 .f32 := broadcastInDim S8x8192x8x64 ![] bcast_S_S8x8192x8x64 main_cst_2
  let main_v11 : IVec S8x8192x8x64 1 := cmpf .olt main_v9 main_v10
  let main_c_3 : IVec S_ 1 := constantI S_ 1 1#1
  let main_v12 : IVec S_ 1 := (fun x v => Host.reduce IntOp.andi x v reducesTo_S8x8192x8x64_S_d0_1_2_3 h_S_) main_v11 main_c_3
  let main_v13 : IVec S_ 1 := andi main_v8 main_v12
  let main_v14 : FVec F S8x8192x32 .f32 := Host.absf main_arg3
  let main_cst_4 : FVec F S_ .f32 := constant S_ .f32 0x7F800000#32
  let main_v15 : FVec F S8x8192x32 .f32 := broadcastInDim S8x8192x32 ![] bcast_S_S8x8192x32 main_cst_4
  let main_v16 : IVec S8x8192x32 1 := cmpf .olt main_v14 main_v15
  fn_part1 (F := F) main_v13 main_v16
-- ==== Kernel.lean ====
abbrev S8x8192x8x64 : Shape := ⟨4, ![8, 8192, 8, 64]⟩
abbrev S8x8192x8x32 : Shape := ⟨4, ![8, 8192, 8, 32]⟩
abbrev S8x8192x32 : Shape := ⟨3, ![8, 8192, 32]⟩
abbrev S_ : Shape := ⟨0, ![]⟩
abbrev S8x8192x8x128 : Shape := ⟨4, ![8, 8192, 8, 128]⟩
abbrev S8x8192x1x32 : Shape := ⟨4, ![8, 8192, 1, 32]⟩
abbrev S8x8x1x8192 : Shape := ⟨4, ![8, 8, 1, 8192]⟩
abbrev S8x8x15x8192 : Shape := ⟨4, ![8, 8, 15, 8192]⟩
abbrev S8x8x64x8192 : Shape := ⟨4, ![8, 8, 64, 8192]⟩
abbrev S8x8x80x8192 : Shape := ⟨4, ![8, 8, 80, 8192]⟩
abbrev S8x8x80x32x256 : Shape := ⟨5, ![8, 8, 80, 32, 256]⟩
abbrev S8x8x32x80x256 : Shape := ⟨5, ![8, 8, 32, 80, 256]⟩
abbrev S8x8192x1024 : Shape := ⟨3, ![8, 8192, 1024]⟩
abbrev S8x8192x512 : Shape := ⟨3, ![8, 8192, 512]⟩
abbrev S1x2048x256 : Shape := ⟨3, ![1, 2048, 256]⟩
abbrev S1x8192x256 : Shape := ⟨3, ![1, 8192, 256]⟩
abbrev S1x2x32x80x256 : Shape := ⟨5, ![1, 2, 32, 80, 256]⟩
abbrev S1x2048x128 : Shape := ⟨3, ![1, 2048, 128]⟩
abbrev S2x2x256x512 : Shape := ⟨4, ![2, 2, 256, 512]⟩
abbrev S1x512x128 : Shape := ⟨3, ![1, 512, 128]⟩
abbrev S512x128 : Shape := ⟨2, ![512, 128]⟩
abbrev S1x512 : Shape := ⟨2, ![1, 512]⟩
abbrev S80x512 : Shape := ⟨2, ![80, 512]⟩
abbrev S1x256x128 : Shape := ⟨3, ![1, 256, 128]⟩
abbrev S256x128 : Shape := ⟨2, ![256, 128]⟩
abbrev S256x512 : Shape := ⟨2, ![256, 512]⟩
abbrev S1x1x256x512 : Shape := ⟨4, ![1, 1, 256, 512]⟩
abbrev S512 : Shape := ⟨1, ![512]⟩
abbrev S1x1x1x80x256 : Shape := ⟨5, ![1, 1, 1, 80, 256]⟩
abbrev S80x256 : Shape := ⟨2, ![80, 256]⟩
abbrev S64x512 : Shape := ⟨2, ![64, 512]⟩
abbrev S128x512 : Shape := ⟨2, ![128, 512]⟩

abbrev nBuf : Space → Nat
  | .hbm => 31
  | .vmem => 9
  | .smem => 0
  | _ => 0

abbrev bufTy : (tb : Table) → Fin (tcTables nBuf tb) → BufTy
  | .hbm, ⟨0, _⟩ => ⟨S8x8192x8x64, .f32⟩
  | .hbm, ⟨1, _⟩ => ⟨S8x8192x8x32, .f32⟩
  | .hbm, ⟨2, _⟩ => ⟨S8x8192x8x64, .f32⟩
  | .hbm, ⟨3, _⟩ => ⟨S8x8192x32, .f32⟩
  | .hbm, ⟨4, _⟩ => ⟨S8x8192x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x8192x8x32, .f32⟩
  | .hbm, ⟨11, _⟩ => ⟨S8x8192x8x128, .f32⟩
  | .hbm, ⟨12, _⟩ => ⟨S8x8192x8x128, .f32⟩
  | .hbm, ⟨13, _⟩ => ⟨S8x8192x8x128, .f32⟩
  | .hbm, ⟨14, _⟩ => ⟨S8x8192x8x128, .bf16⟩
  | .hbm, ⟨15, _⟩ => ⟨S8x8192x1x32, .f32⟩
  | .hbm, ⟨16, _⟩ => ⟨S8x8192x8x32, .f32⟩
  | .hbm, ⟨17, _⟩ => ⟨S8x8192x8x128, .f32⟩
  | .hbm, ⟨18, _⟩ => ⟨S8x8192x8x128, .bf16⟩
  | .hbm, ⟨19, _⟩ => ⟨S_, .f32⟩
  | .hbm, ⟨20, _⟩ => ⟨S8x8x1x8192, .f32⟩
  | .hbm, ⟨21, _⟩ => ⟨S_, .f32⟩
  | .hbm, ⟨22, _⟩ => ⟨S8x8x15x8192, .f32⟩
  | .hbm, ⟨23, _⟩ => ⟨S8x8x64x8192, .f32⟩
  | .hbm, ⟨24, _⟩ => ⟨S8x8x80x8192, .f32⟩
  | .hbm, ⟨25, _⟩ => ⟨S8x8x80x8192, .bf16⟩
  | .hbm, ⟨26, _⟩ => ⟨S8x8x80x32x256, .bf16⟩
  | .hbm, ⟨27, _⟩ => ⟨S8x8x32x80x256, .bf16⟩
  | .hbm, ⟨28, _⟩ => ⟨S8x8192x1024, .bf16⟩
  | .hbm, ⟨29, _⟩ => ⟨S8x8192x1024, .bf16⟩
  | .hbm, ⟨30, _⟩ => ⟨S8x8192x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x2x32x80x256, .bf16⟩
  | .local _ .vmem, ⟨5, _⟩ => ⟨S1x2x32x80x256, .bf16⟩
  | .local _ .vmem, ⟨6, _⟩ => ⟨S1x2048x128, .bf16⟩
  | .local _ .vmem, ⟨7, _⟩ => ⟨S1x2048x128, .bf16⟩
  | .local _ .vmem, ⟨8, _⟩ => ⟨S2x2x256x512, .f32⟩
  | _, _ => ⟨S8x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_mult1 : BitVec 32 :=
  let c0_i32 : BitVec 32 := 0#32
  c0_i32
@[reducible] def k0_t1_loop : Scf.Loop 32 :=
  let c0_i32_20 : BitVec 32 := 0#32
  let c3_i32 : BitVec 32 := 3#32
  let v25 : BitVec 32 := Scalar.addi c0_i32_20 c3_i32
  let c1_i32 : BitVec 32 := 1#32
  ⟨c0_i32_20, v25, c1_i32⟩
def k0_mult2 (k0_t1 : Fin k0_t1_loop.trips) : BitVec 32 :=
  let c8_i32 : BitVec 32 := 8#32
  let c0_i32_20 : BitVec 32 := 0#32
  let c1_i32 : BitVec 32 := 1#32
  let arg8 : BitVec 32 := Scf.iv c0_i32_20 c1_i32 k0_t1
  let v1656 : BitVec 32 := Scalar.muli c8_i32 arg8
  let c0_i32_1219 : BitVec 32 := 0#32
  let v1657 : BitVec 32 := Scalar.addi v1656 c0_i32_1219
  let c1_i32_1220 : BitVec 32 := 1#32
  let v1658 : BitVec 32 := Scalar.addi v1657 c1_i32_1220
  let c256_i32 : BitVec 32 := 256#32
  let v1659 : BitVec 32 := Scalar.muli v1658 c256_i32
  v1659
def k0_off1 (k0_t1 : Fin k0_t1_loop.trips) (c0_i32_1219 : BitVec 32) : Fin 3 → Nat :=
  let c0_1221 : Index := 0#32
  let c8_i32 : BitVec 32 := 8#32
  let c0_i32_20 : BitVec 32 := 0#32
  let c1_i32 : BitVec 32 := 1#32
  let arg8 : BitVec 32 := Scf.iv c0_i32_20 c1_i32 k0_t1
  let v1656 : BitVec 32 := Scalar.muli c8_i32 arg8
  let v1657 : BitVec 32 := Scalar.addi v1656 c0_i32_1219
  let c1_i32_1220 : BitVec 32 := 1#32
  let v1658 : BitVec 32 := Scalar.addi v1657 c1_i32_1220
  let c256_i32 : BitVec 32 := 256#32
  let v1659 : BitVec 32 := Scalar.muli v1658 c256_i32
  let v1660 : BitVec 32 := v1659
  let v1661 : Index := Scalar.indexCast v1660
  let c0_1222 : Index := 0#32
  ![0, v1661.toNat, 0]
def k0_off2 (k0_t1 : Fin k0_t1_loop.trips) (c0_i32_1219 : BitVec 32) : Fin 3 → Nat :=
  let c0_1229 : Index := 0#32
  let c8_i32 : BitVec 32 := 8#32
  let c0_i32_20 : BitVec 32 := 0#32
  let c1_i32 : BitVec 32 := 1#32
  let arg8 : BitVec 32 := Scf.iv c0_i32_20 c1_i32 k0_t1
  let v1656 : BitVec 32 := Scalar.muli c8_i32 arg8
  let v1657 : BitVec 32 := Scalar.addi v1656 c0_i32_1219
  let c1_i32_1220 : BitVec 32 := 1#32
  let v1658 : BitVec 32 := Scalar.addi v1657 c1_i32_1220
  let c256_i32 : BitVec 32 := 256#32
  let v1659 : BitVec 32 := Scalar.muli v1658 c256_i32
  let v1660 : BitVec 32 := v1659
  let v1670 : Index := Scalar.indexCast v1660
  let c128_1230 : Index := 128#32
  ![0, v1670.toNat, 128]
def k0_off3 (k0_t1 : Fin k0_t1_loop.trips) (c0_i32_1237 : BitVec 32) : Fin 5 → Nat :=
  let c0_1242 : Index := 0#32
  let c0_1243 : Index := 0#32
  let c8_i32 : BitVec 32 := 8#32
  let c0_i32_20 : BitVec 32 := 0#32
  let c1_i32 : BitVec 32 := 1#32
  let arg8 : BitVec 32 := Scf.iv c0_i32_20 c1_i32 k0_t1
  let v1656 : BitVec 32 := Scalar.muli c8_i32 arg8
  let v1679 : BitVec 32 := Scalar.addi v1656 c0_i32_1237
  let v1691 : Index := Scalar.indexCast v1679
  let c0_1244 : Index := 0#32
  let c0_1245 : Index := 0#32
  ![0, 0, v1691.toNat, 0, 0]
def k0_off4 (k0_t1 : Fin k0_t1_loop.trips) (c0_i32_1237 : BitVec 32) : Fin 5 → Nat :=
  let c0_1251 : Index := 0#32
  let c1_1252 : Index := 1#32
  let c8_i32 : BitVec 32 := 8#32
  let c0_i32_20 : BitVec 32 := 0#32
  let c1_i32 : BitVec 32 := 1#32
  let arg8 : BitVec 32 := Scf.iv c0_i32_20 c1_i32 k0_t1
  let v1656 : BitVec 32 := Scalar.muli c8_i32 arg8
  let v1679 : BitVec 32 := Scalar.addi v1656 c0_i32_1237
  let v1707 : Index := Scalar.indexCast v1679
  let c0_1253 : Index := 0#32
  let c0_1254 : Index := 0#32
  ![0, 1, v1707.toNat, 0, 0]
def k0_mult3 (k0_t1 : Fin k0_t1_loop.trips) : BitVec 32 :=
  let c8_i32 : BitVec 32 := 8#32
  let c0_i32_20 : BitVec 32 := 0#32
  let c1_i32 : BitVec 32 := 1#32
  let arg8 : BitVec 32 := Scf.iv c0_i32_20 c1_i32 k0_t1
  let v1656 : BitVec 32 := Scalar.muli c8_i32 arg8
  let c1_i32_1256 : BitVec 32 := 1#32
  let v1712 : BitVec 32 := Scalar.addi v1656 c1_i32_1256
  let c1_i32_1257 : BitVec 32 := 1#32
  let v1713 : BitVec 32 := Scalar.addi v1712 c1_i32_1257
  let c256_i32_1258 : BitVec 32 := 256#32
  let v1714 : BitVec 32 := Scalar.muli v1713 c256_i32_1258
  v1714
def k0_mult4 (k0_t1 : Fin k0_t1_loop.trips) : BitVec 32 :=
  let c8_i32 : BitVec 32 := 8#32
  let c0_i32_20 : BitVec 32 := 0#32
  let c1_i32 : BitVec 32 := 1#32
  let arg8 : BitVec 32 := Scf.iv c0_i32_20 c1_i32 k0_t1
  let v1656 : BitVec 32 := Scalar.muli c8_i32 arg8
  let c2_i32 : BitVec 32 := 2#32
  let v1767 : BitVec 32 := Scalar.addi v1656 c2_i32
  let c1_i32_1294 : BitVec 32 := 1#32
  let v1768 : BitVec 32 := Scalar.addi v1767 c1_i32_1294
  let c256_i32_1295 : BitVec 32 := 256#32
  let v1769 : BitVec 32 := Scalar.muli v1768 c256_i32_1295
  v1769
def k0_mult5 (k0_t1 : Fin k0_t1_loop.trips) : BitVec 32 :=
  let c8_i32 : BitVec 32 := 8#32
  let c0_i32_20 : BitVec 32 := 0#32
  let c1_i32 : BitVec 32 := 1#32
  let arg8 : BitVec 32 := Scf.iv c0_i32_20 c1_i32 k0_t1
  let v1656 : BitVec 32 := Scalar.muli c8_i32 arg8
  let c3_i32_1331 : BitVec 32 := 3#32
  let v1822 : BitVec 32 := Scalar.addi v1656 c3_i32_1331
  let c1_i32_1332 : BitVec 32 := 1#32
  let v1823 : BitVec 32 := Scalar.addi v1822 c1_i32_1332
  let c256_i32_1333 : BitVec 32 := 256#32
  let v1824 : BitVec 32 := Scalar.muli v1823 c256_i32_1333
  v1824
def k0_mult6 (k0_t1 : Fin k0_t1_loop.trips) : BitVec 32 :=
  let c8_i32 : BitVec 32 := 8#32
  let c0_i32_20 : BitVec 32 := 0#32
  let c1_i32 : BitVec 32 := 1#32
  let arg8 : BitVec 32 := Scf.iv c0_i32_20 c1_i32 k0_t1
  let v1656 : BitVec 32 := Scalar.muli c8_i32 arg8
  let c4_i32 : BitVec 32 := 4#32
  let v1877 : BitVec 32 := Scalar.addi v1656 c4_i32
  let c1_i32_1369 : BitVec 32 := 1#32
  let v1878 : BitVec 32 := Scalar.addi v1877 c1_i32_1369
  let c256_i32_1370 : BitVec 32 := 256#32
  let v1879 : BitVec 32 := Scalar.muli v1878 c256_i32_1370
  v1879
def k0_mult7 (k0_t1 : Fin k0_t1_loop.trips) : BitVec 32 :=
  let c8_i32 : BitVec 32 := 8#32
  let c0_i32_20 : BitVec 32 := 0#32
  let c1_i32 : BitVec 32 := 1#32
  let arg8 : BitVec 32 := Scf.iv c0_i32_20 c1_i32 k0_t1
  let v1656 : BitVec 32 := Scalar.muli c8_i32 arg8
  let c5_i32 : BitVec 32 := 5#32
  let v1932 : BitVec 32 := Scalar.addi v1656 c5_i32
  let c1_i32_1406 : BitVec 32 := 1#32
  let v1933 : BitVec 32 := Scalar.addi v1932 c1_i32_1406
  let c256_i32_1407 : BitVec 32 := 256#32
  let v1934 : BitVec 32 := Scalar.muli v1933 c256_i32_1407
  v1934
def k0_mult8 (k0_t1 : Fin k0_t1_loop.trips) : BitVec 32 :=
  let c8_i32 : BitVec 32 := 8#32
  let c0_i32_20 : BitVec 32 := 0#32
  let c1_i32 : BitVec 32 := 1#32
  let arg8 : BitVec 32 := Scf.iv c0_i32_20 c1_i32 k0_t1
  let v1656 : BitVec 32 := Scalar.muli c8_i32 arg8
  let c6_i32 : BitVec 32 := 6#32
  let v1987 : BitVec 32 := Scalar.addi v1656 c6_i32
  let c1_i32_1443 : BitVec 32 := 1#32
  let v1988 : BitVec 32 := Scalar.addi v1987 c1_i32_1443
  let c256_i32_1444 : BitVec 32 := 256#32
  let v1989 : BitVec 32 := Scalar.muli v1988 c256_i32_1444
  v1989
def k0_mult9 (k0_t1 : Fin k0_t1_loop.trips) : BitVec 32 :=
  let c8_i32 : BitVec 32 := 8#32
  let c0_i32_20 : BitVec 32 := 0#32
  let c1_i32 : BitVec 32 := 1#32
  let arg8 : BitVec 32 := Scf.iv c0_i32_20 c1_i32 k0_t1
  let v1656 : BitVec 32 := Scalar.muli c8_i32 arg8
  let c7_i32 : BitVec 32 := 7#32
  let v2042 : BitVec 32 := Scalar.addi v1656 c7_i32
  let c1_i32_1480 : BitVec 32 := 1#32
  let v2043 : BitVec 32 := Scalar.addi v2042 c1_i32_1480
  let c256_i32_1481 : BitVec 32 := 256#32
  let v2044 : BitVec 32 := Scalar.muli v2043 c256_i32_1481
  v2044
def k0_mult10 : BitVec 32 :=
  let c6400_i32 : BitVec 32 := 6400#32
  c6400_i32
def k0_mult11 : BitVec 32 :=
  let c6656_i32 : BitVec 32 := 6656#32
  c6656_i32
def k0_mult12 : BitVec 32 :=
  let c6912_i32 : BitVec 32 := 6912#32
  c6912_i32
def k0_mult13 : BitVec 32 :=
  let c7168_i32 : BitVec 32 := 7168#32
  c7168_i32
def k0_mult14 : BitVec 32 :=
  let c7424_i32 : BitVec 32 := 7424#32
  c7424_i32
def k0_mult15 : BitVec 32 :=
  let c7680_i32 : BitVec 32 := 7680#32
  c7680_i32
def k0_mult16 : BitVec 32 :=
  let c7936_i32 : BitVec 32 := 7936#32
  c7936_i32
def k0_mult17 : BitVec 32 :=
  let c0_i32_296 : BitVec 32 := 0#32
  c0_i32_296
@[reducible] def k0_t2_loop : Scf.Loop 32 :=
  let c0_i32_313 : BitVec 32 := 0#32
  let c3_i32_314 : BitVec 32 := 3#32
  let v439 : BitVec 32 := Scalar.addi c0_i32_313 c3_i32_314
  let c1_i32_315 : BitVec 32 := 1#32
  ⟨c0_i32_313, v439, c1_i32_315⟩
def k0_mult18 (k0_t2 : Fin k0_t2_loop.trips) : BitVec 32 :=
  let c8_i32 : BitVec 32 := 8#32
  let c0_i32_313 : BitVec 32 := 0#32
  let c1_i32_315 : BitVec 32 := 1#32
  let arg8 : BitVec 32 := Scf.iv c0_i32_313 c1_i32_315 k0_t2
  let v1656 : BitVec 32 := Scalar.muli c8_i32 arg8
  let c0_i32_1219 : BitVec 32 := 0#32
  let v1657 : BitVec 32 := Scalar.addi v1656 c0_i32_1219
  let c1_i32_1220 : BitVec 32 := 1#32
  let v1658 : BitVec 32 := Scalar.addi v1657 c1_i32_1220
  let c256_i32 : BitVec 32 := 256#32
  let v1659 : BitVec 32 := Scalar.muli v1658 c256_i32
  v1659
def k0_off5 (k0_t2 : Fin k0_t2_loop.trips) (c0_i32_1219 : BitVec 32) : Fin 3 → Nat :=
  let c0_1221 : Index := 0#32
  let c8_i32 : BitVec 32 := 8#32
  let c0_i32_313 : BitVec 32 := 0#32
  let c1_i32_315 : BitVec 32 := 1#32
  let arg8 : BitVec 32 := Scf.iv c0_i32_313 c1_i32_315 k0_t2
  let v1656 : BitVec 32 := Scalar.muli c8_i32 arg8
  let v1657 : BitVec 32 := Scalar.addi v1656 c0_i32_1219
  let c1_i32_1220 : BitVec 32 := 1#32
  let v1658 : BitVec 32 := Scalar.addi v1657 c1_i32_1220
  let c256_i32 : BitVec 32 := 256#32
  let v1659 : BitVec 32 := Scalar.muli v1658 c256_i32
  let v1660 : BitVec 32 := v1659
  let v1661 : Index := Scalar.indexCast v1660
  let c0_1222 : Index := 0#32
  ![0, v1661.toNat, 0]
def k0_off6 (k0_t2 : Fin k0_t2_loop.trips) (c0_i32_1219 : BitVec 32) : Fin 3 → Nat :=
  let c0_1229 : Index := 0#32
  let c8_i32 : BitVec 32 := 8#32
  let c0_i32_313 : BitVec 32 := 0#32
  let c1_i32_315 : BitVec 32 := 1#32
  let arg8 : BitVec 32 := Scf.iv c0_i32_313 c1_i32_315 k0_t2
  let v1656 : BitVec 32 := Scalar.muli c8_i32 arg8
  let v1657 : BitVec 32 := Scalar.addi v1656 c0_i32_1219
  let c1_i32_1220 : BitVec 32 := 1#32
  let v1658 : BitVec 32 := Scalar.addi v1657 c1_i32_1220
  let c256_i32 : BitVec 32 := 256#32
  let v1659 : BitVec 32 := Scalar.muli v1658 c256_i32
  let v1660 : BitVec 32 := v1659
  let v1670 : Index := Scalar.indexCast v1660
  let c128_1230 : Index := 128#32
  ![0, v1670.toNat, 128]
def k0_off7 (k0_t2 : Fin k0_t2_loop.trips) (c0_i32_1237 : BitVec 32) : Fin 5 → Nat :=
  let c0_1242 : Index := 0#32
  let c0_1243 : Index := 0#32
  let c8_i32 : BitVec 32 := 8#32
  let c0_i32_313 : BitVec 32 := 0#32
  let c1_i32_315 : BitVec 32 := 1#32
  let arg8 : BitVec 32 := Scf.iv c0_i32_313 c1_i32_315 k0_t2
  let v1656 : BitVec 32 := Scalar.muli c8_i32 arg8
  let v1679 : BitVec 32 := Scalar.addi v1656 c0_i32_1237
  let v1691 : Index := Scalar.indexCast v1679
  let c0_1244 : Index := 0#32
  let c0_1245 : Index := 0#32
  ![0, 0, v1691.toNat, 0, 0]
def k0_off8 (k0_t2 : Fin k0_t2_loop.trips) (c0_i32_1237 : BitVec 32) : Fin 5 → Nat :=
  let c0_1251 : Index := 0#32
  let c1_1252 : Index := 1#32
  let c8_i32 : BitVec 32 := 8#32
  let c0_i32_313 : BitVec 32 := 0#32
  let c1_i32_315 : BitVec 32 := 1#32
  let arg8 : BitVec 32 := Scf.iv c0_i32_313 c1_i32_315 k0_t2
  let v1656 : BitVec 32 := Scalar.muli c8_i32 arg8
  let v1679 : BitVec 32 := Scalar.addi v1656 c0_i32_1237
  let v1707 : Index := Scalar.indexCast v1679
  let c0_1253 : Index := 0#32
  let c0_1254 : Index := 0#32
  ![0, 1, v1707.toNat, 0, 0]
def k0_mult19 (k0_t2 : Fin k0_t2_loop.trips) : BitVec 32 :=
  let c8_i32 : BitVec 32 := 8#32
  let c0_i32_313 : BitVec 32 := 0#32
  let c1_i32_315 : BitVec 32 := 1#32
  let arg8 : BitVec 32 := Scf.iv c0_i32_313 c1_i32_315 k0_t2
  let v1656 : BitVec 32 := Scalar.muli c8_i32 arg8
  let c1_i32_1256 : BitVec 32 := 1#32
  let v1712 : BitVec 32 := Scalar.addi v1656 c1_i32_1256
  let c1_i32_1257 : BitVec 32 := 1#32
  let v1713 : BitVec 32 := Scalar.addi v1712 c1_i32_1257
  let c256_i32_1258 : BitVec 32 := 256#32
  let v1714 : BitVec 32 := Scalar.muli v1713 c256_i32_1258
  v1714
def k0_mult20 (k0_t2 : Fin k0_t2_loop.trips) : BitVec 32 :=
  let c8_i32 : BitVec 32 := 8#32
  let c0_i32_313 : BitVec 32 := 0#32
  let c1_i32_315 : BitVec 32 := 1#32
  let arg8 : BitVec 32 := Scf.iv c0_i32_313 c1_i32_315 k0_t2
  let v1656 : BitVec 32 := Scalar.muli c8_i32 arg8
  let c2_i32 : BitVec 32 := 2#32
  let v1767 : BitVec 32 := Scalar.addi v1656 c2_i32
  let c1_i32_1294 : BitVec 32 := 1#32
  let v1768 : BitVec 32 := Scalar.addi v1767 c1_i32_1294
  let c256_i32_1295 : BitVec 32 := 256#32
  let v1769 : BitVec 32 := Scalar.muli v1768 c256_i32_1295
  v1769
def k0_mult21 (k0_t2 : Fin k0_t2_loop.trips) : BitVec 32 :=
  let c8_i32 : BitVec 32 := 8#32
  let c0_i32_313 : BitVec 32 := 0#32
  let c1_i32_315 : BitVec 32 := 1#32
  let arg8 : BitVec 32 := Scf.iv c0_i32_313 c1_i32_315 k0_t2
  let v1656 : BitVec 32 := Scalar.muli c8_i32 arg8
  let c3_i32_1331 : BitVec 32 := 3#32
  let v1822 : BitVec 32 := Scalar.addi v1656 c3_i32_1331
  let c1_i32_1332 : BitVec 32 := 1#32
  let v1823 : BitVec 32 := Scalar.addi v1822 c1_i32_1332
  let c256_i32_1333 : BitVec 32 := 256#32
  let v1824 : BitVec 32 := Scalar.muli v1823 c256_i32_1333
  v1824
def k0_mult22 (k0_t2 : Fin k0_t2_loop.trips) : BitVec 32 :=
  let c8_i32 : BitVec 32 := 8#32
  let c0_i32_313 : BitVec 32 := 0#32
  let c1_i32_315 : BitVec 32 := 1#32
  let arg8 : BitVec 32 := Scf.iv c0_i32_313 c1_i32_315 k0_t2
  let v1656 : BitVec 32 := Scalar.muli c8_i32 arg8
  let c4_i32 : BitVec 32 := 4#32
  let v1877 : BitVec 32 := Scalar.addi v1656 c4_i32
  let c1_i32_1369 : BitVec 32 := 1#32
  let v1878 : BitVec 32 := Scalar.addi v1877 c1_i32_1369
  let c256_i32_1370 : BitVec 32 := 256#32
  let v1879 : BitVec 32 := Scalar.muli v1878 c256_i32_1370
  v1879
def k0_mult23 (k0_t2 : Fin k0_t2_loop.trips) : BitVec 32 :=
  let c8_i32 : BitVec 32 := 8#32
  let c0_i32_313 : BitVec 32 := 0#32
  let c1_i32_315 : BitVec 32 := 1#32
  let arg8 : BitVec 32 := Scf.iv c0_i32_313 c1_i32_315 k0_t2
  let v1656 : BitVec 32 := Scalar.muli c8_i32 arg8
  let c5_i32 : BitVec 32 := 5#32
  let v1932 : BitVec 32 := Scalar.addi v1656 c5_i32
  let c1_i32_1406 : BitVec 32 := 1#32
  let v1933 : BitVec 32 := Scalar.addi v1932 c1_i32_1406
  let c256_i32_1407 : BitVec 32 := 256#32
  let v1934 : BitVec 32 := Scalar.muli v1933 c256_i32_1407
  v1934
def k0_mult24 (k0_t2 : Fin k0_t2_loop.trips) : BitVec 32 :=
  let c8_i32 : BitVec 32 := 8#32
  let c0_i32_313 : BitVec 32 := 0#32
  let c1_i32_315 : BitVec 32 := 1#32
  let arg8 : BitVec 32 := Scf.iv c0_i32_313 c1_i32_315 k0_t2
  let v1656 : BitVec 32 := Scalar.muli c8_i32 arg8
  let c6_i32 : BitVec 32 := 6#32
  let v1987 : BitVec 32 := Scalar.addi v1656 c6_i32
  let c1_i32_1443 : BitVec 32 := 1#32
  let v1988 : BitVec 32 := Scalar.addi v1987 c1_i32_1443
  let c256_i32_1444 : BitVec 32 := 256#32
  let v1989 : BitVec 32 := Scalar.muli v1988 c256_i32_1444
  v1989
def k0_mult25 (k0_t2 : Fin k0_t2_loop.trips) : BitVec 32 :=
  let c8_i32 : BitVec 32 := 8#32
  let c0_i32_313 : BitVec 32 := 0#32
  let c1_i32_315 : BitVec 32 := 1#32
  let arg8 : BitVec 32 := Scf.iv c0_i32_313 c1_i32_315 k0_t2
  let v1656 : BitVec 32 := Scalar.muli c8_i32 arg8
  let c7_i32 : BitVec 32 := 7#32
  let v2042 : BitVec 32 := Scalar.addi v1656 c7_i32
  let c1_i32_1480 : BitVec 32 := 1#32
  let v2043 : BitVec 32 := Scalar.addi v2042 c1_i32_1480
  let c256_i32_1481 : BitVec 32 := 256#32
  let v2044 : BitVec 32 := Scalar.muli v2043 c256_i32_1481
  v2044
def k0_mult26 : BitVec 32 :=
  let c6400_i32_317 : BitVec 32 := 6400#32
  c6400_i32_317
def k0_mult27 : BitVec 32 :=
  let c6656_i32_354 : BitVec 32 := 6656#32
  c6656_i32_354
def k0_mult28 : BitVec 32 :=
  let c6912_i32_391 : BitVec 32 := 6912#32
  c6912_i32_391
def k0_mult29 : BitVec 32 :=
  let c7168_i32_428 : BitVec 32 := 7168#32
  c7168_i32_428
def k0_mult30 : BitVec 32 :=
  let c7424_i32_465 : BitVec 32 := 7424#32
  c7424_i32_465
def k0_mult31 : BitVec 32 :=
  let c7680_i32_502 : BitVec 32 := 7680#32
  c7680_i32_502
def k0_mult32 : BitVec 32 :=
  let c7936_i32_539 : BitVec 32 := 7936#32
  c7936_i32_539
def k0_mult33 : BitVec 32 :=
  let c0_i32_606 : BitVec 32 := 0#32
  c0_i32_606
@[reducible] def k0_t3_loop : Scf.Loop 32 :=
  let c0_i32_623 : BitVec 32 := 0#32
  let c3_i32_624 : BitVec 32 := 3#32
  let v853 : BitVec 32 := Scalar.addi c0_i32_623 c3_i32_624
  let c1_i32_625 : BitVec 32 := 1#32
  ⟨c0_i32_623, v853, c1_i32_625⟩
def k0_mult34 (k0_t3 : Fin k0_t3_loop.trips) : BitVec 32 :=
  let c8_i32 : BitVec 32 := 8#32
  let c0_i32_623 : BitVec 32 := 0#32
  let c1_i32_625 : BitVec 32 := 1#32
  let arg8 : BitVec 32 := Scf.iv c0_i32_623 c1_i32_625 k0_t3
  let v1656 : BitVec 32 := Scalar.muli c8_i32 arg8
  let c0_i32_1219 : BitVec 32 := 0#32
  let v1657 : BitVec 32 := Scalar.addi v1656 c0_i32_1219
  let c1_i32_1220 : BitVec 32 := 1#32
  let v1658 : BitVec 32 := Scalar.addi v1657 c1_i32_1220
  let c256_i32 : BitVec 32 := 256#32
  let v1659 : BitVec 32 := Scalar.muli v1658 c256_i32
  v1659
def k0_off9 (k0_t3 : Fin k0_t3_loop.trips) (c0_i32_1219 : BitVec 32) : Fin 3 → Nat :=
  let c0_1221 : Index := 0#32
  let c8_i32 : BitVec 32 := 8#32
  let c0_i32_623 : BitVec 32 := 0#32
  let c1_i32_625 : BitVec 32 := 1#32
  let arg8 : BitVec 32 := Scf.iv c0_i32_623 c1_i32_625 k0_t3
  let v1656 : BitVec 32 := Scalar.muli c8_i32 arg8
  let v1657 : BitVec 32 := Scalar.addi v1656 c0_i32_1219
  let c1_i32_1220 : BitVec 32 := 1#32
  let v1658 : BitVec 32 := Scalar.addi v1657 c1_i32_1220
  let c256_i32 : BitVec 32 := 256#32
  let v1659 : BitVec 32 := Scalar.muli v1658 c256_i32
  let v1660 : BitVec 32 := v1659
  let v1661 : Index := Scalar.indexCast v1660
  let c0_1222 : Index := 0#32
  ![0, v1661.toNat, 0]
def k0_off10 (k0_t3 : Fin k0_t3_loop.trips) (c0_i32_1219 : BitVec 32) : Fin 3 → Nat :=
  let c0_1229 : Index := 0#32
  let c8_i32 : BitVec 32 := 8#32
  let c0_i32_623 : BitVec 32 := 0#32
  let c1_i32_625 : BitVec 32 := 1#32
  let arg8 : BitVec 32 := Scf.iv c0_i32_623 c1_i32_625 k0_t3
  let v1656 : BitVec 32 := Scalar.muli c8_i32 arg8
  let v1657 : BitVec 32 := Scalar.addi v1656 c0_i32_1219
  let c1_i32_1220 : BitVec 32 := 1#32
  let v1658 : BitVec 32 := Scalar.addi v1657 c1_i32_1220
  let c256_i32 : BitVec 32 := 256#32
  let v1659 : BitVec 32 := Scalar.muli v1658 c256_i32
  let v1660 : BitVec 32 := v1659
  let v1670 : Index := Scalar.indexCast v1660
  let c128_1230 : Index := 128#32
  ![0, v1670.toNat, 128]
def k0_off11 (k0_t3 : Fin k0_t3_loop.trips) (c0_i32_1237 : BitVec 32) : Fin 5 → Nat :=
  let c0_1242 : Index := 0#32
  let c0_1243 : Index := 0#32
  let c8_i32 : BitVec 32 := 8#32
  let c0_i32_623 : BitVec 32 := 0#32
  let c1_i32_625 : BitVec 32 := 1#32
  let arg8 : BitVec 32 := Scf.iv c0_i32_623 c1_i32_625 k0_t3
  let v1656 : BitVec 32 := Scalar.muli c8_i32 arg8
  let v1679 : BitVec 32 := Scalar.addi v1656 c0_i32_1237
  let v1691 : Index := Scalar.indexCast v1679
  let c0_1244 : Index := 0#32
  let c0_1245 : Index := 0#32
  ![0, 0, v1691.toNat, 0, 0]
def k0_off12 (k0_t3 : Fin k0_t3_loop.trips) (c0_i32_1237 : BitVec 32) : Fin 5 → Nat :=
  let c0_1251 : Index := 0#32
  let c1_1252 : Index := 1#32
  let c8_i32 : BitVec 32 := 8#32
  let c0_i32_623 : BitVec 32 := 0#32
  let c1_i32_625 : BitVec 32 := 1#32
  let arg8 : BitVec 32 := Scf.iv c0_i32_623 c1_i32_625 k0_t3
  let v1656 : BitVec 32 := Scalar.muli c8_i32 arg8
  let v1679 : BitVec 32 := Scalar.addi v1656 c0_i32_1237
  let v1707 : Index := Scalar.indexCast v1679
  let c0_1253 : Index := 0#32
  let c0_1254 : Index := 0#32
  ![0, 1, v1707.toNat, 0, 0]
def k0_mult35 (k0_t3 : Fin k0_t3_loop.trips) : BitVec 32 :=
  let c8_i32 : BitVec 32 := 8#32
  let c0_i32_623 : BitVec 32 := 0#32
  let c1_i32_625 : BitVec 32 := 1#32
  let arg8 : BitVec 32 := Scf.iv c0_i32_623 c1_i32_625 k0_t3
  let v1656 : BitVec 32 := Scalar.muli c8_i32 arg8
  let c1_i32_1256 : BitVec 32 := 1#32
  let v1712 : BitVec 32 := Scalar.addi v1656 c1_i32_1256
  let c1_i32_1257 : BitVec 32 := 1#32
  let v1713 : BitVec 32 := Scalar.addi v1712 c1_i32_1257
  let c256_i32_1258 : BitVec 32 := 256#32
  let v1714 : BitVec 32 := Scalar.muli v1713 c256_i32_1258
  v1714
def k0_mult36 (k0_t3 : Fin k0_t3_loop.trips) : BitVec 32 :=
  let c8_i32 : BitVec 32 := 8#32
  let c0_i32_623 : BitVec 32 := 0#32
  let c1_i32_625 : BitVec 32 := 1#32
  let arg8 : BitVec 32 := Scf.iv c0_i32_623 c1_i32_625 k0_t3
  let v1656 : BitVec 32 := Scalar.muli c8_i32 arg8
  let c2_i32 : BitVec 32 := 2#32
  let v1767 : BitVec 32 := Scalar.addi v1656 c2_i32
  let c1_i32_1294 : BitVec 32 := 1#32
  let v1768 : BitVec 32 := Scalar.addi v1767 c1_i32_1294
  let c256_i32_1295 : BitVec 32 := 256#32
  let v1769 : BitVec 32 := Scalar.muli v1768 c256_i32_1295
  v1769
def k0_mult37 (k0_t3 : Fin k0_t3_loop.trips) : BitVec 32 :=
  let c8_i32 : BitVec 32 := 8#32
  let c0_i32_623 : BitVec 32 := 0#32
  let c1_i32_625 : BitVec 32 := 1#32
  let arg8 : BitVec 32 := Scf.iv c0_i32_623 c1_i32_625 k0_t3
  let v1656 : BitVec 32 := Scalar.muli c8_i32 arg8
  let c3_i32_1331 : BitVec 32 := 3#32
  let v1822 : BitVec 32 := Scalar.addi v1656 c3_i32_1331
  let c1_i32_1332 : BitVec 32 := 1#32
  let v1823 : BitVec 32 := Scalar.addi v1822 c1_i32_1332
  let c256_i32_1333 : BitVec 32 := 256#32
  let v1824 : BitVec 32 := Scalar.muli v1823 c256_i32_1333
  v1824
def k0_mult38 (k0_t3 : Fin k0_t3_loop.trips) : BitVec 32 :=
  let c8_i32 : BitVec 32 := 8#32
  let c0_i32_623 : BitVec 32 := 0#32
  let c1_i32_625 : BitVec 32 := 1#32
  let arg8 : BitVec 32 := Scf.iv c0_i32_623 c1_i32_625 k0_t3
  let v1656 : BitVec 32 := Scalar.muli c8_i32 arg8
  let c4_i32 : BitVec 32 := 4#32
  let v1877 : BitVec 32 := Scalar.addi v1656 c4_i32
  let c1_i32_1369 : BitVec 32 := 1#32
  let v1878 : BitVec 32 := Scalar.addi v1877 c1_i32_1369
  let c256_i32_1370 : BitVec 32 := 256#32
  let v1879 : BitVec 32 := Scalar.muli v1878 c256_i32_1370
  v1879
def k0_mult39 (k0_t3 : Fin k0_t3_loop.trips) : BitVec 32 :=
  let c8_i32 : BitVec 32 := 8#32
  let c0_i32_623 : BitVec 32 := 0#32
  let c1_i32_625 : BitVec 32 := 1#32
  let arg8 : BitVec 32 := Scf.iv c0_i32_623 c1_i32_625 k0_t3
  let v1656 : BitVec 32 := Scalar.muli c8_i32 arg8
  let c5_i32 : BitVec 32 := 5#32
  let v1932 : BitVec 32 := Scalar.addi v1656 c5_i32
  let c1_i32_1406 : BitVec 32 := 1#32
  let v1933 : BitVec 32 := Scalar.addi v1932 c1_i32_1406
  let c256_i32_1407 : BitVec 32 := 256#32
  let v1934 : BitVec 32 := Scalar.muli v1933 c256_i32_1407
  v1934
def k0_mult40 (k0_t3 : Fin k0_t3_loop.trips) : BitVec 32 :=
  let c8_i32 : BitVec 32 := 8#32
  let c0_i32_623 : BitVec 32 := 0#32
  let c1_i32_625 : BitVec 32 := 1#32
  let arg8 : BitVec 32 := Scf.iv c0_i32_623 c1_i32_625 k0_t3
  let v1656 : BitVec 32 := Scalar.muli c8_i32 arg8
  let c6_i32 : BitVec 32 := 6#32
  let v1987 : BitVec 32 := Scalar.addi v1656 c6_i32
  let c1_i32_1443 : BitVec 32 := 1#32
  let v1988 : BitVec 32 := Scalar.addi v1987 c1_i32_1443
  let c256_i32_1444 : BitVec 32 := 256#32
  let v1989 : BitVec 32 := Scalar.muli v1988 c256_i32_1444
  v1989
def k0_mult41 (k0_t3 : Fin k0_t3_loop.trips) : BitVec 32 :=
  let c8_i32 : BitVec 32 := 8#32
  let c0_i32_623 : BitVec 32 := 0#32
  let c1_i32_625 : BitVec 32 := 1#32
  let arg8 : BitVec 32 := Scf.iv c0_i32_623 c1_i32_625 k0_t3
  let v1656 : BitVec 32 := Scalar.muli c8_i32 arg8
  let c7_i32 : BitVec 32 := 7#32
  let v2042 : BitVec 32 := Scalar.addi v1656 c7_i32
  let c1_i32_1480 : BitVec 32 := 1#32
  let v2043 : BitVec 32 := Scalar.addi v2042 c1_i32_1480
  let c256_i32_1481 : BitVec 32 := 256#32
  let v2044 : BitVec 32 := Scalar.muli v2043 c256_i32_1481
  v2044
def k0_mult42 : BitVec 32 :=
  let c6400_i32_627 : BitVec 32 := 6400#32
  c6400_i32_627
def k0_mult43 : BitVec 32 :=
  let c6656_i32_664 : BitVec 32 := 6656#32
  c6656_i32_664
def k0_mult44 : BitVec 32 :=
  let c6912_i32_701 : BitVec 32 := 6912#32
  c6912_i32_701
def k0_mult45 : BitVec 32 :=
  let c7168_i32_738 : BitVec 32 := 7168#32
  c7168_i32_738
def k0_mult46 : BitVec 32 :=
  let c7424_i32_775 : BitVec 32 := 7424#32
  c7424_i32_775
def k0_mult47 : BitVec 32 :=
  let c7680_i32_812 : BitVec 32 := 7680#32
  c7680_i32_812
def k0_mult48 : BitVec 32 :=
  let c7936_i32_849 : BitVec 32 := 7936#32
  c7936_i32_849
def k0_mult49 : BitVec 32 :=
  let c0_i32_916 : BitVec 32 := 0#32
  c0_i32_916
@[reducible] def k0_t4_loop : Scf.Loop 32 :=
  let c0_i32_933 : BitVec 32 := 0#32
  let c3_i32_934 : BitVec 32 := 3#32
  let v1267 : BitVec 32 := Scalar.addi c0_i32_933 c3_i32_934
  let c1_i32_935 : BitVec 32 := 1#32
  ⟨c0_i32_933, v1267, c1_i32_935⟩
def k0_mult50 (k0_t4 : Fin k0_t4_loop.trips) : BitVec 32 :=
  let c8_i32 : BitVec 32 := 8#32
  let c0_i32_933 : BitVec 32 := 0#32
  let c1_i32_935 : BitVec 32 := 1#32
  let arg8 : BitVec 32 := Scf.iv c0_i32_933 c1_i32_935 k0_t4
  let v1656 : BitVec 32 := Scalar.muli c8_i32 arg8
  let c0_i32_1219 : BitVec 32 := 0#32
  let v1657 : BitVec 32 := Scalar.addi v1656 c0_i32_1219
  let c1_i32_1220 : BitVec 32 := 1#32
  let v1658 : BitVec 32 := Scalar.addi v1657 c1_i32_1220
  let c256_i32 : BitVec 32 := 256#32
  let v1659 : BitVec 32 := Scalar.muli v1658 c256_i32
  v1659
def k0_off13 (k0_t4 : Fin k0_t4_loop.trips) (c0_i32_1219 : BitVec 32) : Fin 3 → Nat :=
  let c0_1221 : Index := 0#32
  let c8_i32 : BitVec 32 := 8#32
  let c0_i32_933 : BitVec 32 := 0#32
  let c1_i32_935 : BitVec 32 := 1#32
  let arg8 : BitVec 32 := Scf.iv c0_i32_933 c1_i32_935 k0_t4
  let v1656 : BitVec 32 := Scalar.muli c8_i32 arg8
  let v1657 : BitVec 32 := Scalar.addi v1656 c0_i32_1219
  let c1_i32_1220 : BitVec 32 := 1#32
  let v1658 : BitVec 32 := Scalar.addi v1657 c1_i32_1220
  let c256_i32 : BitVec 32 := 256#32
  let v1659 : BitVec 32 := Scalar.muli v1658 c256_i32
  let v1660 : BitVec 32 := v1659
  let v1661 : Index := Scalar.indexCast v1660
  let c0_1222 : Index := 0#32
  ![0, v1661.toNat, 0]
def k0_off14 (k0_t4 : Fin k0_t4_loop.trips) (c0_i32_1219 : BitVec 32) : Fin 3 → Nat :=
  let c0_1229 : Index := 0#32
  let c8_i32 : BitVec 32 := 8#32
  let c0_i32_933 : BitVec 32 := 0#32
  let c1_i32_935 : BitVec 32 := 1#32
  let arg8 : BitVec 32 := Scf.iv c0_i32_933 c1_i32_935 k0_t4
  let v1656 : BitVec 32 := Scalar.muli c8_i32 arg8
  let v1657 : BitVec 32 := Scalar.addi v1656 c0_i32_1219
  let c1_i32_1220 : BitVec 32 := 1#32
  let v1658 : BitVec 32 := Scalar.addi v1657 c1_i32_1220
  let c256_i32 : BitVec 32 := 256#32
  let v1659 : BitVec 32 := Scalar.muli v1658 c256_i32
  let v1660 : BitVec 32 := v1659
  let v1670 : Index := Scalar.indexCast v1660
  let c128_1230 : Index := 128#32
  ![0, v1670.toNat, 128]
def k0_off15 (k0_t4 : Fin k0_t4_loop.trips) (c0_i32_1237 : BitVec 32) : Fin 5 → Nat :=
  let c0_1242 : Index := 0#32
  let c0_1243 : Index := 0#32
  let c8_i32 : BitVec 32 := 8#32
  let c0_i32_933 : BitVec 32 := 0#32
  let c1_i32_935 : BitVec 32 := 1#32
  let arg8 : BitVec 32 := Scf.iv c0_i32_933 c1_i32_935 k0_t4
  let v1656 : BitVec 32 := Scalar.muli c8_i32 arg8
  let v1679 : BitVec 32 := Scalar.addi v1656 c0_i32_1237
  let v1691 : Index := Scalar.indexCast v1679
  let c0_1244 : Index := 0#32
  let c0_1245 : Index := 0#32
  ![0, 0, v1691.toNat, 0, 0]
def k0_off16 (k0_t4 : Fin k0_t4_loop.trips) (c0_i32_1237 : BitVec 32) : Fin 5 → Nat :=
  let c0_1251 : Index := 0#32
  let c1_1252 : Index := 1#32
  let c8_i32 : BitVec 32 := 8#32
  let c0_i32_933 : BitVec 32 := 0#32
  let c1_i32_935 : BitVec 32 := 1#32
  let arg8 : BitVec 32 := Scf.iv c0_i32_933 c1_i32_935 k0_t4
  let v1656 : BitVec 32 := Scalar.muli c8_i32 arg8
  let v1679 : BitVec 32 := Scalar.addi v1656 c0_i32_1237
  let v1707 : Index := Scalar.indexCast v1679
  let c0_1253 : Index := 0#32
  let c0_1254 : Index := 0#32
  ![0, 1, v1707.toNat, 0, 0]
def k0_mult51 (k0_t4 : Fin k0_t4_loop.trips) : BitVec 32 :=
  let c8_i32 : BitVec 32 := 8#32
  let c0_i32_933 : BitVec 32 := 0#32
  let c1_i32_935 : BitVec 32 := 1#32
  let arg8 : BitVec 32 := Scf.iv c0_i32_933 c1_i32_935 k0_t4
  let v1656 : BitVec 32 := Scalar.muli c8_i32 arg8
  let c1_i32_1256 : BitVec 32 := 1#32
  let v1712 : BitVec 32 := Scalar.addi v1656 c1_i32_1256
  let c1_i32_1257 : BitVec 32 := 1#32
  let v1713 : BitVec 32 := Scalar.addi v1712 c1_i32_1257
  let c256_i32_1258 : BitVec 32 := 256#32
  let v1714 : BitVec 32 := Scalar.muli v1713 c256_i32_1258
  v1714
def k0_mult52 (k0_t4 : Fin k0_t4_loop.trips) : BitVec 32 :=
  let c8_i32 : BitVec 32 := 8#32
  let c0_i32_933 : BitVec 32 := 0#32
  let c1_i32_935 : BitVec 32 := 1#32
  let arg8 : BitVec 32 := Scf.iv c0_i32_933 c1_i32_935 k0_t4
  let v1656 : BitVec 32 := Scalar.muli c8_i32 arg8
  let c2_i32 : BitVec 32 := 2#32
  let v1767 : BitVec 32 := Scalar.addi v1656 c2_i32
  let c1_i32_1294 : BitVec 32 := 1#32
  let v1768 : BitVec 32 := Scalar.addi v1767 c1_i32_1294
  let c256_i32_1295 : BitVec 32 := 256#32
  let v1769 : BitVec 32 := Scalar.muli v1768 c256_i32_1295
  v1769
def k0_mult53 (k0_t4 : Fin k0_t4_loop.trips) : BitVec 32 :=
  let c8_i32 : BitVec 32 := 8#32
  let c0_i32_933 : BitVec 32 := 0#32
  let c1_i32_935 : BitVec 32 := 1#32
  let arg8 : BitVec 32 := Scf.iv c0_i32_933 c1_i32_935 k0_t4
  let v1656 : BitVec 32 := Scalar.muli c8_i32 arg8
  let c3_i32_1331 : BitVec 32 := 3#32
  let v1822 : BitVec 32 := Scalar.addi v1656 c3_i32_1331
  let c1_i32_1332 : BitVec 32 := 1#32
  let v1823 : BitVec 32 := Scalar.addi v1822 c1_i32_1332
  let c256_i32_1333 : BitVec 32 := 256#32
  let v1824 : BitVec 32 := Scalar.muli v1823 c256_i32_1333
  v1824
def k0_mult54 (k0_t4 : Fin k0_t4_loop.trips) : BitVec 32 :=
  let c8_i32 : BitVec 32 := 8#32
  let c0_i32_933 : BitVec 32 := 0#32
  let c1_i32_935 : BitVec 32 := 1#32
  let arg8 : BitVec 32 := Scf.iv c0_i32_933 c1_i32_935 k0_t4
  let v1656 : BitVec 32 := Scalar.muli c8_i32 arg8
  let c4_i32 : BitVec 32 := 4#32
  let v1877 : BitVec 32 := Scalar.addi v1656 c4_i32
  let c1_i32_1369 : BitVec 32 := 1#32
  let v1878 : BitVec 32 := Scalar.addi v1877 c1_i32_1369
  let c256_i32_1370 : BitVec 32 := 256#32
  let v1879 : BitVec 32 := Scalar.muli v1878 c256_i32_1370
  v1879
def k0_mult55 (k0_t4 : Fin k0_t4_loop.trips) : BitVec 32 :=
  let c8_i32 : BitVec 32 := 8#32
  let c0_i32_933 : BitVec 32 := 0#32
  let c1_i32_935 : BitVec 32 := 1#32
  let arg8 : BitVec 32 := Scf.iv c0_i32_933 c1_i32_935 k0_t4
  let v1656 : BitVec 32 := Scalar.muli c8_i32 arg8
  let c5_i32 : BitVec 32 := 5#32
  let v1932 : BitVec 32 := Scalar.addi v1656 c5_i32
  let c1_i32_1406 : BitVec 32 := 1#32
  let v1933 : BitVec 32 := Scalar.addi v1932 c1_i32_1406
  let c256_i32_1407 : BitVec 32 := 256#32
  let v1934 : BitVec 32 := Scalar.muli v1933 c256_i32_1407
  v1934
def k0_mult56 (k0_t4 : Fin k0_t4_loop.trips) : BitVec 32 :=
  let c8_i32 : BitVec 32 := 8#32
  let c0_i32_933 : BitVec 32 := 0#32
  let c1_i32_935 : BitVec 32 := 1#32
  let arg8 : BitVec 32 := Scf.iv c0_i32_933 c1_i32_935 k0_t4
  let v1656 : BitVec 32 := Scalar.muli c8_i32 arg8
  let c6_i32 : BitVec 32 := 6#32
  let v1987 : BitVec 32 := Scalar.addi v1656 c6_i32
  let c1_i32_1443 : BitVec 32 := 1#32
  let v1988 : BitVec 32 := Scalar.addi v1987 c1_i32_1443
  let c256_i32_1444 : BitVec 32 := 256#32
  let v1989 : BitVec 32 := Scalar.muli v1988 c256_i32_1444
  v1989
def k0_mult57 (k0_t4 : Fin k0_t4_loop.trips) : BitVec 32 :=
  let c8_i32 : BitVec 32 := 8#32
  let c0_i32_933 : BitVec 32 := 0#32
  let c1_i32_935 : BitVec 32 := 1#32
  let arg8 : BitVec 32 := Scf.iv c0_i32_933 c1_i32_935 k0_t4
  let v1656 : BitVec 32 := Scalar.muli c8_i32 arg8
  let c7_i32 : BitVec 32 := 7#32
  let v2042 : BitVec 32 := Scalar.addi v1656 c7_i32
  let c1_i32_1480 : BitVec 32 := 1#32
  let v2043 : BitVec 32 := Scalar.addi v2042 c1_i32_1480
  let c256_i32_1481 : BitVec 32 := 256#32
  let v2044 : BitVec 32 := Scalar.muli v2043 c256_i32_1481
  v2044
def k0_mult58 : BitVec 32 :=
  let c6400_i32_937 : BitVec 32 := 6400#32
  c6400_i32_937
def k0_mult59 : BitVec 32 :=
  let c6656_i32_974 : BitVec 32 := 6656#32
  c6656_i32_974
def k0_mult60 : BitVec 32 :=
  let c6912_i32_1011 : BitVec 32 := 6912#32
  c6912_i32_1011
def k0_mult61 : BitVec 32 :=
  let c7168_i32_1048 : BitVec 32 := 7168#32
  c7168_i32_1048
def k0_mult62 : BitVec 32 :=
  let c7424_i32_1085 : BitVec 32 := 7424#32
  c7424_i32_1085
def k0_mult63 : BitVec 32 :=
  let c7680_i32_1122 : BitVec 32 := 7680#32
  c7680_i32_1122
def k0_mult64 : BitVec 32 :=
  let c7936_i32_1159 : BitVec 32 := 7936#32
  c7936_i32_1159
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x32x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x8192x8x64 : Shape := ⟨4, ![8, 8192, 8, 64]⟩
abbrev S8x8192x8x32 : Shape := ⟨4, ![8, 8192, 8, 32]⟩
abbrev S8x8192x32 : Shape := ⟨3, ![8, 8192, 32]⟩
abbrev S8x8x8192x8192 : Shape := ⟨4, ![8, 8, 8192, 8192]⟩
abbrev S8x8192x8192x8 : Shape := ⟨4, ![8, 8192, 8192, 8]⟩
abbrev S_ : Shape := ⟨0, ![]⟩
abbrev S8x8x8192 : Shape := ⟨3, ![8, 8, 8192]⟩
abbrev S8x8x8192x1 : Shape := ⟨4, ![8, 8, 8192, 1]⟩
abbrev S8x8x64x8192 : Shape := ⟨4, ![8, 8, 64, 8192]⟩
abbrev S8x8192x512 : Shape := ⟨3, ![8, 8192, 512]⟩

abbrev nBuf : Space → Nat
  | .hbm => 30
  | .vmem => 0
  | .smem => 0
  | _ => 0

abbrev bufTy : (tb : Table) → Fin (tcTables nBuf tb) → BufTy
  | .hbm, ⟨0, _⟩ => ⟨S8x8192x8x64, .f32⟩
  | .hbm, ⟨1, _⟩ => ⟨S8x8192x8x32, .f32⟩
  | .hbm, ⟨2, _⟩ => ⟨S8x8192x8x64, .f32⟩
  | .hbm, ⟨3, _⟩ => ⟨S8x8192x32, .f32⟩
  | .hbm, ⟨4, _⟩ => ⟨S8x8192x8x64, .f32⟩
  | .hbm, ⟨5, _⟩ => ⟨S8x8x8192x8192, .f32⟩
  | .hbm, ⟨6, _⟩ => ⟨S8x8192x8192x8, .f32⟩
  | .hbm, ⟨7, _⟩ => ⟨S8x8x8192x8192, .f32⟩
  | .hbm, ⟨8, _⟩ => ⟨S8x8x8192x8192, .f32⟩
  | .hbm, ⟨9, _⟩ => ⟨S_, .f32⟩
  | .hbm, ⟨10, _⟩ => ⟨S8x8x8192x8192, .f32⟩
  | .hbm, ⟨11, _⟩ => ⟨S8x8x8192x8192, .f32⟩
  | .hbm, ⟨12, _⟩ => ⟨S_, .f32⟩
  | .hbm, ⟨13, _⟩ => ⟨S8x8x8192, .f32⟩
  | .hbm, ⟨14, _⟩ => ⟨S_, .f32⟩
  | .hbm, ⟨15, _⟩ => ⟨S8x8x8192, .f32⟩
  | .hbm, ⟨16, _⟩ => ⟨S8x8x8192, .f32⟩
  | .hbm, ⟨17, _⟩ => ⟨S8x8x8192x1, .f32⟩
  | .hbm, ⟨18, _⟩ => ⟨S8x8x8192x8192, .f32⟩
  | .hbm, ⟨19, _⟩ => ⟨S8x8x8192x8192, .f32⟩
  | .hbm, ⟨20, _⟩ => ⟨S8x8x8192x8192, .f32⟩
  | .hbm, ⟨21, _⟩ => ⟨S_, .f32⟩
  | .hbm, ⟨22, _⟩ => ⟨S8x8x8192, .f32⟩
  | .hbm, ⟨23, _⟩ => ⟨S8x8x8192x1, .f32⟩
  | .hbm, ⟨24, _⟩ => ⟨S8x8x8192x8192, .f32⟩
  | .hbm, ⟨25, _⟩ => ⟨S8x8x8192x8192, .f32⟩
  | .hbm, ⟨26, _⟩ => ⟨S8x8x64x8192, .f32⟩
  | .hbm, ⟨27, _⟩ => ⟨S8x8192x8x64, .f32⟩
  | .hbm, ⟨28, _⟩ => ⟨S8x8192x512, .f32⟩
  | .hbm, ⟨29, _⟩ => ⟨S8x8192x512, .bf16⟩
  | _, _ => ⟨S8x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel2.lean ====
abbrev S8x8192x512 : Shape := ⟨3, ![8, 8192, 512]⟩
abbrev S8x4x8192x128 : Shape := ⟨4, ![8, 4, 8192, 128]⟩
abbrev S128 : Shape := ⟨1, ![128]⟩
abbrev S1024x1024 : Shape := ⟨2, ![1024, 1024]⟩
abbrev S8x8192x1024 : Shape := ⟨3, ![8, 8192, 1024]⟩
abbrev S1024 : Shape := ⟨1, ![1024]⟩
abbrev S8x8192x4x128 : Shape := ⟨4, ![8, 8192, 4, 128]⟩
abbrev S1x128 : Shape := ⟨2, ![1, 128]⟩
abbrev S512x1024 : Shape := ⟨2, ![512, 1024]⟩
abbrev S1x1024 : Shape := ⟨2, ![1, 1024]⟩
abbrev S1x1024x512 : Shape := ⟨3, ![1, 1024, 512]⟩
abbrev S1x1024x1024 : Shape := ⟨3, ![1, 1024, 1024]⟩
abbrev S1024x512 : Shape := ⟨2, ![1024, 512]⟩
abbrev S1024x128 : Shape := ⟨2, ![1024, 128]⟩
abbrev S1024x1 : Shape := ⟨2, ![1024, 1]⟩

abbrev nBuf : Space → Nat
  | .hbm => 27
  | .vmem => 20
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x4x8192x128, .f32⟩
  | .hbm, ⟨3, _⟩ => ⟨S8x4x8192x128, .f32⟩
  | .hbm, ⟨4, _⟩ => ⟨S8x8192x512, .f32⟩
  | .hbm, ⟨5, _⟩ => ⟨S8x8192x512, .f32⟩
  | .hbm, ⟨6, _⟩ => ⟨S128, .f32⟩
  | .hbm, ⟨7, _⟩ => ⟨S1024x1024, .f32⟩
  | .hbm, ⟨8, _⟩ => ⟨S8x8192x1024, .f32⟩
  | .hbm, ⟨9, _⟩ => ⟨S1024, .f32⟩
  | .hbm, ⟨10, _⟩ => ⟨S8x8192x512, .bf16⟩
  | .hbm, ⟨11, _⟩ => ⟨S8x8192x512, .bf16⟩
  | .hbm, ⟨12, _⟩ => ⟨S8x8192x4x128, .f32⟩
  | .hbm, ⟨13, _⟩ => ⟨S8x8192x512, .f32⟩
  | .hbm, ⟨14, _⟩ => ⟨S8x8192x512, .bf16⟩
  | .hbm, ⟨15, _⟩ => ⟨S8x8192x4x128, .f32⟩
  | .hbm, ⟨16, _⟩ => ⟨S8x8192x512, .f32⟩
  | .hbm, ⟨17, _⟩ => ⟨S8x8192x512, .bf16⟩
  | .hbm, ⟨18, _⟩ => ⟨S8x8192x512, .bf16⟩
  | .hbm, ⟨19, _⟩ => ⟨S8x8192x512, .bf16⟩
  | .hbm, ⟨20, _⟩ => ⟨S1x128, .f32⟩
  | .hbm, ⟨21, _⟩ => ⟨S512x1024, .f32⟩
  | .hbm, ⟨22, _⟩ => ⟨S512x1024, .bf16⟩
  | .hbm, ⟨23, _⟩ => ⟨S512x1024, .f32⟩
  | .hbm, ⟨24, _⟩ => ⟨S512x1024, .bf16⟩
  | .hbm, ⟨25, _⟩ => ⟨S1x1024, .f32⟩
  | .hbm, ⟨26, _⟩ => ⟨S8x8192x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x128, .f32⟩
  | .local _ .vmem, ⟨13, _⟩ => ⟨S512x1024, .bf16⟩
  | .local _ .vmem, ⟨14, _⟩ => ⟨S512x1024, .bf16⟩
  | .local _ .vmem, ⟨15, _⟩ => ⟨S1x1024x1024, .f32⟩
  | .local _ .vmem, ⟨16, _⟩ => ⟨S1x1024x1024, .f32⟩
  | .local _ .vmem, ⟨17, _⟩ => ⟨S1x1024, .f32⟩
  | .local _ .vmem, ⟨18, _⟩ => ⟨S1x1024x1024, .f32⟩
  | .local _ .vmem, ⟨19, _⟩ => ⟨S1x1024x1024, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S8x8192x512 : Shape := ⟨3, ![8, 8192, 512]⟩
abbrev S8x4x8192x128 : Shape := ⟨4, ![8, 4, 8192, 128]⟩
abbrev S128 : Shape := ⟨1, ![128]⟩
abbrev S1024x1024 : Shape := ⟨2, ![1024, 1024]⟩
abbrev S8x8192x1024 : Shape := ⟨3, ![8, 8192, 1024]⟩
abbrev S1024 : Shape := ⟨1, ![1024]⟩
abbrev S_ : Shape := ⟨0, ![]⟩
abbrev S8x4x8192 : Shape := ⟨3, ![8, 4, 8192]⟩
abbrev S8x4x8192x1 : Shape := ⟨4, ![8, 4, 8192, 1]⟩
abbrev S1x1x1x128 : Shape := ⟨4, ![1, 1, 1, 128]⟩
abbrev S8x8192x4x128 : Shape := ⟨4, ![8, 8192, 4, 128]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x4x8192x128, .f32⟩
  | .hbm, ⟨3, _⟩ => ⟨S8x4x8192x128, .f32⟩
  | .hbm, ⟨4, _⟩ => ⟨S8x8192x512, .f32⟩
  | .hbm, ⟨5, _⟩ => ⟨S8x8192x512, .f32⟩
  | .hbm, ⟨6, _⟩ => ⟨S128, .f32⟩
  | .hbm, ⟨7, _⟩ => ⟨S1024x1024, .f32⟩
  | .hbm, ⟨8, _⟩ => ⟨S8x8192x1024, .f32⟩
  | .hbm, ⟨9, _⟩ => ⟨S1024, .f32⟩
  | .hbm, ⟨10, _⟩ => ⟨S8x8192x512, .f32⟩
  | .hbm, ⟨11, _⟩ => ⟨S8x8192x512, .f32⟩
  | .hbm, ⟨12, _⟩ => ⟨S_, .f32⟩
  | .hbm, ⟨13, _⟩ => ⟨S8x8192x512, .f32⟩
  | .hbm, ⟨14, _⟩ => ⟨S8x8192x512, .f32⟩
  | .hbm, ⟨15, _⟩ => ⟨S_, .f32⟩
  | .hbm, ⟨16, _⟩ => ⟨S8x8192x512, .f32⟩
  | .hbm, ⟨17, _⟩ => ⟨S8x8192x512, .f32⟩
  | .hbm, ⟨18, _⟩ => ⟨S8x8192x512, .f32⟩
  | .hbm, ⟨19, _⟩ => ⟨S8x8192x512, .f32⟩
  | .hbm, ⟨20, _⟩ => ⟨S8x4x8192x128, .f32⟩
  | .hbm, ⟨21, _⟩ => ⟨S8x4x8192x128, .f32⟩
  | .hbm, ⟨22, _⟩ => ⟨S_, .f32⟩
  | .hbm, ⟨23, _⟩ => ⟨S8x4x8192, .f32⟩
  | .hbm, ⟨24, _⟩ => ⟨S8x4x8192x1, .f32⟩
  | .hbm, ⟨25, _⟩ => ⟨S_, .f32⟩
  | .hbm, ⟨26, _⟩ => ⟨S8x4x8192x1, .f32⟩
  | .hbm, ⟨27, _⟩ => ⟨S8x4x8192x1, .f32⟩
  | .hbm, ⟨28, _⟩ => ⟨S_, .f32⟩
  | .hbm, ⟨29, _⟩ => ⟨S8x4x8192x1, .f32⟩
  | .hbm, ⟨30, _⟩ => ⟨S8x4x8192x1, .f32⟩
  | .hbm, ⟨31, _⟩ => ⟨S8x4x8192x1, .f32⟩
  | .hbm, ⟨32, _⟩ => ⟨S8x4x8192x128, .f32⟩
  | .hbm, ⟨33, _⟩ => ⟨S8x4x8192x128, .f32⟩
  | .hbm, ⟨34, _⟩ => ⟨S1x1x1x128, .f32⟩
  | .hbm, ⟨35, _⟩ => ⟨S8x4x8192x128, .f32⟩
  | .hbm, ⟨36, _⟩ => ⟨S8x4x8192x128, .f32⟩
  | .hbm, ⟨37, _⟩ => ⟨S8x8192x4x128, .f32⟩
  | .hbm, ⟨38, _⟩ => ⟨S8x8192x512, .f32⟩
  | .hbm, ⟨39, _⟩ => ⟨S8x8192x512, .f32⟩
  | .hbm, ⟨40, _⟩ => ⟨S8x8192x512, .f32⟩
  | .hbm, ⟨41, _⟩ => ⟨S_, .f32⟩
  | .hbm, ⟨42, _⟩ => ⟨S8x8192x512, .f32⟩
  | .hbm, ⟨43, _⟩ => ⟨S8x8192x512, .f32⟩
  | .hbm, ⟨44, _⟩ => ⟨S_, .f32⟩
  | .hbm, ⟨45, _⟩ => ⟨S8x8192x512, .f32⟩
  | .hbm, ⟨46, _⟩ => ⟨S8x8192x512, .f32⟩
  | .hbm, ⟨47, _⟩ => ⟨S8x8192x512, .f32⟩
  | .hbm, ⟨48, _⟩ => ⟨S8x8192x512, .f32⟩
  | .hbm, ⟨49, _⟩ => ⟨S8x8192x512, .f32⟩
  | .hbm, ⟨50, _⟩ => ⟨S_, .f32⟩
  | .hbm, ⟨51, _⟩ => ⟨S8x8192x512, .f32⟩
  | .hbm, ⟨52, _⟩ => ⟨S8x8192x512, .f32⟩
  | .hbm, ⟨53, _⟩ => ⟨S_, .f32⟩
  | .hbm, ⟨54, _⟩ => ⟨S8x8192x512, .f32⟩
  | .hbm, ⟨55, _⟩ => ⟨S8x8192x512, .f32⟩
  | .hbm, ⟨56, _⟩ => ⟨S8x8192x512, .f32⟩
  | .hbm, ⟨57, _⟩ => ⟨S8x8192x512, .f32⟩
  | .hbm, ⟨58, _⟩ => ⟨S8x8192x1024, .f32⟩
  | .hbm, ⟨59, _⟩ => ⟨S8x8192x1024, .f32⟩
  | .hbm, ⟨60, _⟩ => ⟨S8x8192x1024, .f32⟩
  | .hbm, ⟨61, _⟩ => ⟨S8x8192x1024, .f32⟩
  | .hbm, ⟨62, _⟩ => ⟨S_, .f32⟩
  | .hbm, ⟨63, _⟩ => ⟨S8x8192, .f32⟩
  | .hbm, ⟨64, _⟩ => ⟨S8x8192x1, .f32⟩
  | .hbm, ⟨65, _⟩ => ⟨S_, .f32⟩
  | .hbm, ⟨66, _⟩ => ⟨S8x8192x1, .f32⟩
  | .hbm, ⟨67, _⟩ => ⟨S8x8192x1, .f32⟩
  | .hbm, ⟨68, _⟩ => ⟨S_, .f32⟩
  | .hbm, ⟨69, _⟩ => ⟨S8x8192x1, .f32⟩
  | .hbm, ⟨70, _⟩ => ⟨S8x8192x1, .f32⟩
  | .hbm, ⟨71, _⟩ => ⟨S8x8192x1, .f32⟩
  | .hbm, ⟨72, _⟩ => ⟨S8x8192x1024, .f32⟩
  | .hbm, ⟨73, _⟩ => ⟨S8x8192x1024, .f32⟩
  | .hbm, ⟨74, _⟩ => ⟨S1x1x1024, .f32⟩
  | .hbm, ⟨75, _⟩ => ⟨S8x8192x1024, .f32⟩
  | .hbm, ⟨76, _⟩ => ⟨S8x8192x1024, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_4 : Ref sig .tc := ⟨.hbm, 62, rfl⟩
abbrev main_v31 : Ref sig .tc := ⟨.hbm, 63, rfl⟩
abbrev main_v32 : Ref sig .tc := ⟨.hbm, 64, rfl⟩
abbrev main_cst_5 : Ref sig .tc := ⟨.hbm, 65, rfl⟩
abbrev main_v33 : Ref sig .tc := ⟨.hbm, 66, rfl⟩
abbrev main_v34 : Ref sig .tc := ⟨.hbm, 67, rfl⟩
abbrev main_cst_6 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩

abbrev nD : Nat := 1
abbrev τ : Topo := Topo.v7x

variable {F : FTy → Type} [FloatOps F]
-- ==== Kernel3.lean ====
abbrev S8x8192x1024 : Shape := ⟨3, ![8, 8192, 1024]⟩
abbrev S1024 : Shape := ⟨1, ![1024]⟩
abbrev S1024x4128 : Shape := ⟨2, ![1024, 4128]⟩
abbrev S65536x1024 : Shape := ⟨2, ![65536, 1024]⟩
abbrev S1x1024 : Shape := ⟨2, ![1, 1024]⟩
abbrev S1024x512 : Shape := ⟨2, ![1024, 512]⟩
abbrev S1024x1024 : Shape := ⟨2, ![1024, 1024]⟩
abbrev S1024x32 : Shape := ⟨2, ![1024, 32]⟩
abbrev S65536x512 : Shape := ⟨2, ![65536, 512]⟩
abbrev S65536x32 : Shape := ⟨2, ![65536, 32]⟩
abbrev S1024x1 : Shape := ⟨2, ![1024, 1]⟩

abbrev nBuf : Space → Nat
  | .hbm => 26
  | .vmem => 24
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x4128, .f32⟩
  | .hbm, ⟨3, _⟩ => ⟨S65536x1024, .f32⟩
  | .hbm, ⟨4, _⟩ => ⟨S1x1024, .f32⟩
  | .hbm, ⟨5, _⟩ => ⟨S1024x512, .f32⟩
  | .hbm, ⟨6, _⟩ => ⟨S1024x512, .bf16⟩
  | .hbm, ⟨7, _⟩ => ⟨S1024x512, .f32⟩
  | .hbm, ⟨8, _⟩ => ⟨S1024x512, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x32, .f32⟩
  | .hbm, ⟨14, _⟩ => ⟨S1024x32, .bf16⟩
  | .hbm, ⟨15, _⟩ => ⟨S1024x512, .f32⟩
  | .hbm, ⟨16, _⟩ => ⟨S1024x512, .bf16⟩
  | .hbm, ⟨17, _⟩ => ⟨S1024x512, .f32⟩
  | .hbm, ⟨18, _⟩ => ⟨S1024x512, .bf16⟩
  | .hbm, ⟨19, _⟩ => ⟨S65536x512, .f32⟩
  | .hbm, ⟨20, _⟩ => ⟨S65536x512, .f32⟩
  | .hbm, ⟨21, _⟩ => ⟨S65536x1024, .bf16⟩
  | .hbm, ⟨22, _⟩ => ⟨S65536x1024, .bf16⟩
  | .hbm, ⟨23, _⟩ => ⟨S65536x32, .bf16⟩
  | .hbm, ⟨24, _⟩ => ⟨S65536x512, .f32⟩
  | .hbm, ⟨25, _⟩ => ⟨S65536x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x1024, .bf16⟩
  | .local _ .vmem, ⟨6, _⟩ => ⟨S1024x1024, .bf16⟩
  | .local _ .vmem, ⟨7, _⟩ => ⟨S1024x32, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x32, .bf16⟩
  | .local _ .vmem, ⟨19, _⟩ => ⟨S1024x32, .bf16⟩
  | .local _ .vmem, ⟨20, _⟩ => ⟨S1024x512, .f32⟩
  | .local _ .vmem, ⟨21, _⟩ => ⟨S1024x512, .f32⟩
  | .local _ .vmem, ⟨22, _⟩ => ⟨S1024x512, .bf16⟩
  | .local _ .vmem, ⟨23, _⟩ => ⟨S1024x512, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16_0 : Ref sig .tc := ⟨.hbm, 19, rfl⟩
abbrev main_v16_1 : Ref sig .tc := ⟨.hbm, 20, rfl⟩
abbrev main_v16_2 : Ref sig .tc := ⟨.hbm, 21, rfl⟩
abbrev main_v16_3 : Ref sig .tc := ⟨.hbm, 22, rfl⟩
abbrev main_v16_4 : Ref sig .tc := ⟨.hbm, 23, rfl⟩
abbrev main_v16_5 : Ref sig .tc := ⟨.hbm, 24, rfl⟩
abbrev main_v16_6 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x32 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S8x8192x1024 : Shape := ⟨3, ![8, 8192, 1024]⟩
abbrev S1024 : Shape := ⟨1, ![1024]⟩
abbrev S1024x4128 : Shape := ⟨2, ![1024, 4128]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4128 : Shape := ⟨3, ![8, 8192, 4128]⟩
abbrev S65536x4128 : Shape := ⟨2, ![65536, 4128]⟩
abbrev S65536x512 : Shape := ⟨2, ![65536, 512]⟩
abbrev S65536x1024 : Shape := ⟨2, ![65536, 1024]⟩
abbrev S65536x32 : Shape := ⟨2, ![65536, 32]⟩

abbrev nBuf : Space → Nat
  | .hbm => 32
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x4128, .f32⟩
  | .hbm, ⟨3, _⟩ => ⟨S8x8192x1024, .f32⟩
  | .hbm, ⟨4, _⟩ => ⟨S_, .f32⟩
  | .hbm, ⟨5, _⟩ => ⟨S8x8192, .f32⟩
  | .hbm, ⟨6, _⟩ => ⟨S8x8192x1, .f32⟩
  | .hbm, ⟨7, _⟩ => ⟨S_, .f32⟩
  | .hbm, ⟨8, _⟩ => ⟨S8x8192x1, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S8x8192x1, .f32⟩
  | .hbm, ⟨14, _⟩ => ⟨S8x8192x1024, .f32⟩
  | .hbm, ⟨15, _⟩ => ⟨S8x8192x1024, .f32⟩
  | .hbm, ⟨16, _⟩ => ⟨S1x1x1024, .f32⟩
  | .hbm, ⟨17, _⟩ => ⟨S8x8192x1024, .f32⟩
  | .hbm, ⟨18, _⟩ => ⟨S8x8192x1024, .f32⟩
  | .hbm, ⟨19, _⟩ => ⟨S8x8192x4128, .f32⟩
  | .hbm, ⟨20, _⟩ => ⟨S65536x4128, .f32⟩
  | .hbm, ⟨21, _⟩ => ⟨S65536x512, .f32⟩
  | .hbm, ⟨22, _⟩ => ⟨S65536x512, .f32⟩
  | .hbm, ⟨23, _⟩ => ⟨S65536x1024, .f32⟩
  | .hbm, ⟨24, _⟩ => ⟨S65536x1024, .f32⟩
  | .hbm, ⟨25, _⟩ => ⟨S65536x32, .f32⟩
  | .hbm, ⟨26, _⟩ => ⟨S65536x512, .f32⟩
  | .hbm, ⟨27, _⟩ => ⟨S65536x512, .f32⟩
  | .hbm, ⟨28, _⟩ => ⟨S65536x1024, .bf16⟩
  | .hbm, ⟨29, _⟩ => ⟨S65536x1024, .bf16⟩
  | .hbm, ⟨30, _⟩ => ⟨S65536x32, .bf16⟩
  | .hbm, ⟨31, _⟩ => ⟨S65536x512, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Proof.Pack.lean ====
module

public import proofs.«01_k».proof.Proof.Gen.KernelIdeal
public import Idealize.ShloMosaic.Lib.Pointwise

/-! The arrays the host packs for the kernel, read at an index. -/

@[expose] public section

set_option maxRecDepth 16384
noncomputable section
namespace Cert.KernelIdeal.Att
open Idealize.ShloMosaic
open Cert.KernelIdeal Cert.KernelIdeal.Gen

/-- The scale times `log₂ e`. -/
def cq : FVec Ideal S_ .f32 := Host.divf (constant S_ .f32 0x3DD105EC#32) (Host.log (constant S_ .f32 0x40000000#32))
/-- Zeros in the padding lanes. -/
def zz : FVec Ideal S8x8192x8x32 .f32 := broadcastInDim S8x8192x8x32 ![] bcast_S_S8x8192x8x32 (constant S_ .f32 0x00000000#32)
/-- The packed queries, a head's 128 lanes apart. -/
def pq (X0 : FVec Ideal S8x8192x8x64 .f32) (X1 : FVec Ideal S8x8192x8x32 .f32) : FVec Ideal S8x8192x8x128 .bf16 :=
  truncf .bf16 (mulf (concatenate S8x8192x8x128 3 [⟨S8x8192x8x64, X0⟩, ⟨S8x8192x8x32, X1⟩, ⟨S8x8192x8x32, zz⟩] concatenates_S8x8192x8x64_S8x8192x8x32_S8x8192x8x32_S8x8192x8x128_d3)
    (broadcastInDim S8x8192x8x128 ![] bcast_S_S8x8192x8x128 cq)) bitsLt_bf16_f32
/-- The packed keys, a head's 128 lanes apart. -/
def pk (X2 : FVec Ideal S8x8192x8x64 .f32) (X3 : FVec Ideal S8x8192x32 .f32) : FVec Ideal S8x8192x8x128 .bf16 :=
  truncf .bf16 (concatenate S8x8192x8x128 3 [⟨S8x8192x8x64, X2⟩, ⟨S8x8192x8x32, broadcastInDim S8x8192x8x32 ![0, 1, 2, 3] bcast_S8x8192x1x32_S8x8192x8x32_0_1_2_3
    (broadcastInDim S8x8192x1x32 ![0, 1, 3] bcast_S8x8192x32_S8x8192x1x32_0_1_3 X3)⟩, ⟨S8x8192x8x32, zz⟩] concatenates_S8x8192x8x64_S8x8192x8x32_S8x8192x8x32_S8x8192x8x128_d3) bitsLt_bf16_f32
/-- The transposed values, a row of ones and zeros below them. -/
def pv (X4 : FVec Ideal S8x8192x8x64 .f32) : FVec Ideal S8x8x80x8192 .bf16 :=
  truncf .bf16 (concatenate S8x8x80x8192 2 [⟨S8x8x64x8192, transpose S8x8x64x8192 [0, 2, 3, 1] X4 transposes_S8x8192x8x64_S8x8x64x8192_0_2_3_1⟩,
    ⟨S8x8x1x8192, broadcastInDim S8x8x1x8192 ![] bcast_S_S8x8x1x8192 (constant S_ .f32 0x3F800000#32)⟩,
    ⟨S8x8x15x8192, broadcastInDim S8x8x15x8192 ![] bcast_S_S8x8x15x8192 (constant S_ .f32 0x00000000#32)⟩] concatenates_S8x8x64x8192_S8x8x1x8192_S8x8x15x8192_S8x8x80x8192_d2) bitsLt_bf16_f32
/-- The arrays the call takes. -/
def PQ (X0 : FVec Ideal S8x8192x8x64 .f32) (X1 : FVec Ideal S8x8192x8x32 .f32) : FVec Ideal S8x8192x1024 .bf16 :=
  shapeCast S8x8192x1024 (pq X0 X1) shapeCasts_S8x8192x8x128_S8x8192x1024
def PK (X2 : FVec Ideal S8x8192x8x64 .f32) (X3 : FVec Ideal S8x8192x32 .f32) : FVec Ideal S8x8192x1024 .bf16 :=
  shapeCast S8x8192x1024 (pk X2 X3) shapeCasts_S8x8192x8x128_S8x8192x1024
def PV (X4 : FVec Ideal S8x8192x8x64 .f32) : FVec Ideal S8x8x32x80x256 .bf16 :=
  transpose S8x8x32x80x256 [0, 1, 3, 2, 4] (shapeCast S8x8x80x32x256 (pv X4) shapeCasts_S8x8x80x8192_S8x8x80x32x256) transposes_S8x8x80x32x256_S8x8x32x80x256_0_1_3_2_4

variable (X0 : FVec Ideal S8x8192x8x64 .f32) (X1 : FVec Ideal S8x8192x8x32 .f32) (X2 : FVec Ideal S8x8192x8x64 .f32)
  (X3 : FVec Ideal S8x8192x32 .f32) (X4 : FVec Ideal S8x8192x8x64 .f32)
theorem pq_a (b : Fin 8) (q : Fin 8192) (h : Fin 8) (e : Fin 64) :
    pq X0 X1 (ix4 b q h ⟨e.val, by omega⟩) = X0 (ix4 b q h e) * cq ix0 := by
  pointwise [pq]
theorem pq_b (b : Fin 8) (q : Fin 8192) (h : Fin 8) (e : Fin 32) :
    pq X0 X1 (ix4 b q h ⟨64 + e.val, by omega⟩) = X1 (ix4 b q h e) * cq ix0 := by
  pointwise [pq]
theorem pk_a (b : Fin 8) (q : Fin 8192) (h : Fin 8) (e : Fin 64) :
    pk X2 X3 (ix4 b q h ⟨e.val, by omega⟩) = X2 (ix4 b q h e) := by
  pointwise [pk]
theorem pk_b (b : Fin 8) (q : Fin 8192) (h : Fin 8) (e : Fin 32) :
    pk X2 X3 (ix4 b q h ⟨64 + e.val, by omega⟩) = X3 (ix3 b q e) := by
  pointwise [pk]
theorem pk_c (b : Fin 8) (q : Fin 8192) (h : Fin 8) (e : Fin 32) :
    pk X2 X3 (ix4 b q h ⟨96 + e.val, by omega⟩) = (0 : EReal) := by
  pointwise [pk, zz]
  rw [dif_neg (by omega), dif_neg (by omega)]
theorem PQ_at (b : Fin 8) (q : Fin 8192) (h : Fin 8) (e : Fin 128) :
    PQ X0 X1 (ix3 b q ⟨h.val * 128 + e.val, by omega⟩) = pq X0 X1 (ix4 b q h e) := by
  pointwise [PQ]
theorem PK_at (b : Fin 8) (q : Fin 8192) (h : Fin 8) (e : Fin 128) :
    PK X2 X3 (ix3 b q ⟨h.val * 128 + e.val, by omega⟩) = pk X2 X3 (ix4 b q h e) := by
  pointwise [PK]
theorem pv_a (b : Fin 8) (h : Fin 8) (d : Fin 64) (k : Fin 8192) : pv X4 (ix4 b h ⟨d.val, by omega⟩ k) = X4 (ix4 b k h d) := by
  pointwise [pv]
theorem pv_b (b : Fin 8) (h : Fin 8) (k : Fin 8192) : pv X4 (ix4 b h 64 k) = (1 : EReal) := by
  pointwise [pv]
theorem PV_at (b : Fin 8) (h : Fin 8) (n : Fin 32) (r : Fin 80) (κ : Fin 256) :
    PV X4 (ix5 b h n r κ) = pv X4 (ix4 b h r ⟨n.val * 256 + κ.val, by omega⟩) := by
  pointwise [PV]
end Cert.KernelIdeal.Att

end

end
-- ==== Proof.Ref.lean ====
module

public import proofs.«01_k».proof.Proof.Gen.ReferenceIdeal
public import Idealize.ShloMosaic.Lib.Pointwise

/-! The reference's result, read at an index. -/

@[expose] public section

set_option maxRecDepth 16384
noncomputable section
namespace Cert.ReferenceIdeal.Att
open Idealize.ShloMosaic
open Cert.ReferenceIdeal Cert.ReferenceIdeal.Gen

variable (X0 : FVec Ideal S8x8192x8x64 .f32) (X1 : FVec Ideal S8x8192x8x32 .f32) (X2 : FVec Ideal S8x8192x8x64 .f32)
  (X3 : FVec Ideal S8x8192x32 .f32) (X4 : FVec Ideal S8x8192x8x64 .f32)

/-- The scaled scores. -/
def rsc : FVec Ideal S8x8x8192x8192 .f32 :=
  mulf (addf (Host.dotGeneral dot_S8x8192x8x64_S8x8192x8x64_S8x8x8192x8192_3_3_1_1_02_02 none X0 X2)
      (transpose S8x8x8192x8192 [0, 3, 2, 1] (Host.dotGeneral dot_S8x8192x32_S8x8192x8x32_S8x8192x8192x8_2_3_1_12_0_0 none X3 X1)
        transposes_S8x8192x8192x8_S8x8x8192x8192_0_3_2_1))
    (broadcastInDim S8x8x8192x8192 ![] bcast_S_S8x8x8192x8192 (constant S_ .f32 0x3DD105EC#32))
/-- The largest score of each query. -/
def rmx : FVec Ideal S8x8x8192 .f32 :=
  maximumf (broadcastInDim S8x8x8192 ![] bcast_S_S8x8x8192 (constant S_ .f32 0xFF800000#32))
    (Host.reduce FloatOps.maximumf (rsc X0 X1 X2 X3) (constant S_ .f32 0xFF800000#32) reducesTo_S8x8x8192x8192_S8x8x8192_d3 h_S_)
/-- The exponentials of the scores less their largest. -/
def rex : FVec Ideal S8x8x8192x8192 .f32 :=
  Host.exp (subf (rsc X0 X1 X2 X3) (broadcastInDim S8x8x8192x8192 ![0, 1, 2, 3] bcast_S8x8x8192x1_S8x8x8192x8192_0_1_2_3
    (broadcastInDim S8x8x8192x1 ![0, 1, 2] bcast_S8x8x8192_S8x8x8192x1_0_1_2 (rmx X0 X1 X2 X3))))
/-- The reference's result. -/
def REF : FVec Ideal S8x8192x512 .bf16 :=
  truncf .bf16 (shapeCast S8x8192x512 (transpose S8x8192x8x64 [0, 3, 1, 2]
    (Host.dotGeneral dot_S8x8192x8x64_S8x8x8192x8192_S8x8x64x8192_1_3_3_2_02_01 none X4
      (Host.divf (rex X0 X1 X2 X3) (broadcastInDim S8x8x8192x8192 ![0, 1, 2, 3] bcast_S8x8x8192x1_S8x8x8192x8192_0_1_2_3
        (broadcastInDim S8x8x8192x1 ![0, 1, 2] bcast_S8x8x8192_S8x8x8192x1_0_1_2
          (Host.reduceAdd (rex X0 X1 X2 X3) (constant S_ .f32 0x00000000#32) reducesTo_S8x8x8192x8192_S8x8x8192_d3 h_S_)))))
    transposes_S8x8x64x8192_S8x8192x8x64_0_3_1_2) shapeCasts_S8x8192x8x64_S8x8192x512) bitsLt_bf16_f32

theorem rsc_at (b : Fin 8) (h : Fin 8) (q k : Fin 8192) : rsc X0 X1 X2 X3 (ix4 b h q k)
    = ((∑ e : Fin 64, X0 (ix4 b q h e) * X2 (ix4 b k h e)) + ∑ e : Fin 32, X3 (ix3 b k e) * X1 (ix4 b q h e)) * Ideal.ofBits .f32 0x3DD105EC#32 := by
  pointwise [rsc]
theorem rmax_at (Y : FVec Ideal S8x8x8192x8192 .f32) (z : FVec Ideal S_ .f32) (b : Fin 8) (h : Fin 8) (q : Fin 8192) :
    Host.reduce FloatOps.maximumf Y z reducesTo_S8x8x8192x8192_S8x8x8192_d3 h_S_ (ix3 b h q)
    = Finset.univ.fold (β := EReal) (max (α := EReal)) (z (Shape.Idx.first h_S_)) fun k => Y (ix4 b h q k) := by
  pointwise
theorem rmaxi_at (A B : FVec Ideal S8x8x8192 .f32) (i : S8x8x8192.Idx) : maximumf A B i = max (α := EReal) (A i) (B i) := rfl
theorem rbc_at (z : FVec Ideal S_ .f32) (b : Fin 8) (h : Fin 8) (q : Fin 8192) :
    broadcastInDim S8x8x8192 ![] bcast_S_S8x8x8192 z (ix3 b h q) = z ix0 := by
  pointwise
theorem bot_at (i : S_.Idx) : (constant S_ .f32 0xFF800000#32 : FVec Ideal S_ .f32) i = (⊥ : EReal) := by
  show Ideal.ofBits .f32 0xFF800000#32 = ⊥
  simp [Ideal.ofBits, Ideal.ieee]
theorem rmx_at (b : Fin 8) (h : Fin 8) (q : Fin 8192) : rmx X0 X1 X2 X3 (ix3 b h q)
    = max (α := EReal) ⊥ (Finset.univ.fold (β := EReal) (max (α := EReal)) ⊥ fun k => rsc X0 X1 X2 X3 (ix4 b h q k)) := by
  unfold rmx
  rw [rmaxi_at, rbc_at, rmax_at, bot_at, bot_at]
theorem rex_at (b : Fin 8) (h : Fin 8) (q k : Fin 8192) : rex X0 X1 X2 X3 (ix4 b h q k)
    = Ideal.exp (rsc X0 X1 X2 X3 (ix4 b h q k) - rmx X0 X1 X2 X3 (ix3 b h q)) := by
  pointwise [rex]
theorem REF_at (b : Fin 8) (q : Fin 8192) (h : Fin 8) (d : Fin 64) : REF X0 X1 X2 X3 X4 (ix3 b q ⟨h.val * 64 + d.val, by omega⟩)
    = ∑ k, X4 (ix4 b k h d) * Ideal.div (rex X0 X1 X2 X3 (ix4 b h q k)) (∑ j, rex X0 X1 X2 X3 (ix4 b h q j)) := by
  pointwise [REF]
end Cert.ReferenceIdeal.Att

end

end
-- ==== Proof.Online.lean ====
module

public import Idealize.ShloMosaic.PureOps.Ideal
public import Idealize.ShloMosaic.Lib.Pointwise

/-! A softmax accumulated tile by tile, in powers of two, against the softmax of all the scores at once. -/

@[expose] public section

noncomputable section
namespace Cert.Online
open Idealize.ShloMosaic

/-- The largest of finitely many reals, at least one, is a real. -/
theorem fold_real {ι : Type} [Fintype ι] [Nonempty ι] (x : ι → ℝ) :
    ∃ ν : ℝ, Finset.univ.fold max (⊥ : EReal) (fun i => (x i : EReal)) = ν := by
  obtain ⟨ν, -, h⟩ := Finset.exists_mem_eq_sup' (Finset.univ_nonempty (α := ι)) x
  refine ⟨Finset.univ.sup' Finset.univ_nonempty x, le_antisymm ?_ ?_⟩
  · refine Finset.fold_max_le _ |>.mpr ⟨bot_le, fun i _ => ?_⟩
    exact EReal.coe_le_coe_iff.mpr (Finset.le_sup' x (Finset.mem_univ i))
  · refine Finset.le_fold_max _ |>.mpr (.inr ⟨ν, Finset.mem_univ _, ?_⟩)
    rw [h]

/-- A nonnegative real factor goes into a sum of any extended reals. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

section
variable (S : ℕ → Fin 256 → ℝ) (M : ℕ → EReal) (hM0 : M 0 = ⊥)
  (hM : ∀ n, M (n + 1) = max (M n) (Finset.univ.fold max ⊥ fun κ => (S n κ : EReal)))
include hM0 hM
/-- After a tile, the running maximum is a real. -/
theorem max_real (n : ℕ) : ∃ μ : ℝ, M (n + 1) = μ := by
  induction n with
  | zero =>
    obtain ⟨ν, h⟩ := fold_real (S 0)
    exact ⟨ν, by rw [hM, hM0, h, max_eq_right bot_le]⟩
  | succ n ih =>
    obtain ⟨μ, h⟩ := ih
    obtain ⟨ν, h'⟩ := fold_real (S (n + 1))
    exact ⟨max μ ν, by rw [hM, h, h']; exact (EReal.coe_strictMono.monotone.map_max).symm⟩

variable (V : ℕ → Fin 256 → EReal) (A : ℕ → EReal) (hA0 : A 0 = 0)
  (hA : ∀ n, A (n + 1) = A n * Ideal.exp2 (M n - M (n + 1)) + ∑ κ, V n κ * Ideal.exp2 ((S n κ : EReal) - M (n + 1)))
include hA0 hA
/-- After a tile, the running sum is the sum of every value so far by its weight against the running maximum. -/
theorem sum_tiles (n : ℕ) (μ : ℝ) (hμ : M (n + 1) = μ) :
    A (n + 1) = ∑ t ∈ Finset.range (n + 1), ∑ κ, V t κ * ((2 ^ (S t κ - μ) : ℝ) : EReal) := by
  have h2 : ∀ r : ℝ, Ideal.exp2 (r : EReal) = ((2 ^ r : ℝ) : EReal) := fun _ => rfl
  induction n generalizing μ with
  | zero =>
    rw [hA, hA0, zero_mul, zero_add, hμ]
    simp only [zero_add, Finset.range_one, Finset.sum_singleton, ← EReal.coe_sub, h2]
  | succ n ih =>
    obtain ⟨μ', h'⟩ := max_real S M hM0 hM n
    rw [hA, ih μ' h', hμ, h', ← EReal.coe_sub, h2, sum_mul_real _ _ _ (Real.rpow_nonneg (by norm_num) _),
      Finset.sum_range_succ _ (n + 1)]
    congr 1
    refine Finset.sum_congr rfl fun t _ => ?_
    rw [sum_mul_real _ _ _ (Real.rpow_nonneg (by norm_num) _)]
    refine Finset.sum_congr rfl fun κ _ => ?_
    rw [mul_assoc, ← EReal.coe_mul, ← Real.rpow_add (by norm_num)]
    congr 3
    ring
end

/-- The sums over the tiles, over all the keys at once. -/
theorem tiles_flat (f : Fin 8192 → EReal) (g : ℕ → Fin 256 → EReal)
    (h : ∀ (t : Fin 32) (κ : Fin 256), g t.val κ = f ⟨t.val * 256 + κ.val, by omega⟩) :
    ∑ t ∈ Finset.range 32, ∑ κ, g t κ = ∑ i, f i := by
  rw [Finset.sum_range, Fin.sum_univ_tiles 32 256 rfl f]
  exact Finset.sum_congr rfl fun t _ => Finset.sum_congr rfl fun κ _ => h t κ

/-- The quotient of the two running sums after all 32 tiles is the softmax's weighted sum: the scores `S` are the
    reference's scores `x` over `log 2`, `ν` is any real offset the reference subtracts. -/
theorem quotient (S : ℕ → Fin 256 → ℝ) (x : Fin 8192 → ℝ) (v : Fin 8192 → EReal) (V W : ℕ → Fin 256 → EReal)
    (M A L : ℕ → EReal) (ν : ℝ) (hM0 : M 0 = ⊥)
    (hM : ∀ n, M (n + 1) = max (M n) (Finset.univ.fold max ⊥ fun κ => (S n κ : EReal)))
    (hA0 : A 0 = 0)
    (hA : ∀ n, A (n + 1) = A n * Ideal.exp2 (M n - M (n + 1)) + ∑ κ, V n κ * Ideal.exp2 ((S n κ : EReal) - M (n + 1)))
    (hL0 : L 0 = 0)
    (hL : ∀ n, L (n + 1) = L n * Ideal.exp2 (M n - M (n + 1)) + ∑ κ, W n κ * Ideal.exp2 ((S n κ : EReal) - M (n + 1)))
    (hW : ∀ n κ, W n κ = 1)
    (hS : ∀ (t : Fin 32) (κ : Fin 256), S t.val κ * Real.log 2 = x ⟨t.val * 256 + κ.val, by omega⟩)
    (hV : ∀ (t : Fin 32) (κ : Fin 256), V t.val κ = v ⟨t.val * 256 + κ.val, by omega⟩) :
    Ideal.div (A 32) (L 32) = ∑ i, v i * Ideal.div (Ideal.exp ((x i : EReal) - ν)) (∑ j, Ideal.exp ((x j : EReal) - ν)) := by
  obtain ⟨μ, hμ⟩ := max_real S M hM0 hM 31
  have hl : Real.log 2 ≠ 0 := (Real.log_pos (by norm_num)).ne'
  have e : ∀ i, (2 : ℝ) ^ (x i / Real.log 2 - μ) = Real.exp (x i - ν) * Real.exp (ν - μ * Real.log 2) := fun i => by
    rw [Real.rpow_def_of_pos (by norm_num), ← Real.exp_add]
    congr 1
    field_simp
    ring
  have hs : ∀ (t : Fin 32) (κ : Fin 256), S t.val κ = x ⟨t.val * 256 + κ.val, by omega⟩ / Real.log 2 := fun t κ => by
    rw [← hS]; field_simp
  rw [sum_tiles S M hM0 hM V A hA0 hA 31 μ hμ, sum_tiles S M hM0 hM W L hL0 hL 31 μ hμ,
    tiles_flat (fun i => v i * ((Real.exp (x i - ν) * Real.exp (ν - μ * Real.log 2) : ℝ) : EReal)) _
      (fun t κ => by rw [hV, hs, e]),
    tiles_flat (fun i => ((Real.exp (x i - ν) * Real.exp (ν - μ * Real.log 2) : ℝ) : EReal)) _
      (fun t κ => by rw [hW, one_mul, hs, e])]
  have hx : ∀ i, Ideal.exp ((x i : EReal) - ν) = (Real.exp (x i - ν) : EReal) := fun i => by
    rw [← EReal.coe_sub]; rfl
  have hp : 0 < ∑ j, Real.exp (x j - ν) := Finset.sum_pos (fun j _ => Real.exp_pos _) ⟨⟨0, by norm_num⟩, Finset.mem_univ _⟩
  have hc := Real.exp_pos (ν - μ * Real.log 2)
  simp only [hx]
  rw [sum_real, sum_real, ← Finset.sum_mul, Ideal.div_coe (mul_pos hp hc).ne', sum_mul_real _ _ _ (by positivity)]
  refine Finset.sum_congr rfl fun i _ => ?_
  rw [Ideal.div_coe hp.ne', mul_assoc, ← EReal.coe_mul, ← EReal.coe_mul]
  congr 2
  field_simp
end Cert.Online

end

end
-- ==== Proof.Score.lean ====
module

public import proofs.«01_k».proof.Proof.Pack
public import proofs.«01_k».proof.Proof.Ref
public import proofs.«01_k».proof.Proof.Online

/-! The kernel's scores are the reference's over `log 2`. -/

@[expose] public section

set_option maxRecDepth 16384
noncomputable section
namespace Cert.KernelIdeal.Att
open Idealize.ShloMosaic
open Cert.KernelIdeal Cert.KernelIdeal.Gen

/-- The scale is a real. -/
theorem scale_real : ∃ w : ℝ, Ideal.ofBits .f32 0x3DD105EC#32 = (w : EReal) := by
  refine ⟨13698540 * (2 : ℝ) ^ (-27 : ℤ), ?_⟩
  simp [Ideal.ofBits, Ideal.ieee, -EReal.coe_mul]
theorem two : Ideal.ofBits .f32 0x40000000#32 = ((2 : ℝ) : EReal) := by
  simp [Ideal.ofBits, Ideal.ieee, -EReal.coe_mul]
  norm_num
theorem cq_real (w : ℝ) (hw : Ideal.ofBits .f32 0x3DD105EC#32 = (w : EReal)) : cq ix0 = ((w / Real.log 2 : ℝ) : EReal) := by
  show Ideal.div (Ideal.ofBits .f32 0x3DD105EC#32) (Ideal.log (Ideal.ofBits .f32 0x40000000#32)) = _
  rw [hw, two, Ideal.log_coe, if_neg (by norm_num), Ideal.div_coe (Real.log_pos (by norm_num)).ne', ← EReal.coe_mul]
  congr 1
  ring

/-- A sum over a head's 128 lanes, by its three parts. -/
theorem sum128 (f : Fin 128 → EReal) : ∑ e, f e
    = (∑ e : Fin 64, f ⟨e.val, by omega⟩) + ((∑ e : Fin 32, f ⟨64 + e.val, by omega⟩) + ∑ e : Fin 32, f ⟨96 + e.val, by omega⟩) := by
  refine (Fin.sum_univ_add (a := 64) (b := 64) f).trans (congrArg₂ (· + ·) rfl ?_)
  refine (Fin.sum_univ_add (a := 32) (b := 32) fun e => f (Fin.natAdd 64 e)).trans (congrArg₂ (· + ·) rfl ?_)
  exact Finset.sum_congr rfl fun e _ => congrArg f (Fin.ext (by simp; omega))

variable (X0 : FVec Ideal S8x8192x8x64 .f32) (X1 : FVec Ideal S8x8192x8x32 .f32) (X2 : FVec Ideal S8x8192x8x64 .f32)
  (X3 : FVec Ideal S8x8192x32 .f32) (X4 : FVec Ideal S8x8192x8x64 .f32)

theorem scores (h0 : ∀ i, ∃ r : ℝ, X0 i = (r : EReal)) (h1 : ∀ i, ∃ r : ℝ, X1 i = (r : EReal))
    (h2 : ∀ i, ∃ r : ℝ, X2 i = (r : EReal)) (h3 : ∀ i, ∃ r : ℝ, X3 i = (r : EReal)) (b : Fin 8) (h : Fin 8) (q : Fin 8192) :
    ∃ x : Fin 8192 → ℝ, ∀ k, Cert.ReferenceIdeal.Att.rsc X0 X1 X2 X3 (ix4 b h q k) = (x k : EReal)
      ∧ ∑ e : Fin 128, pk X2 X3 (ix4 b k h e) * pq X0 X1 (ix4 b q h e) = ((x k / Real.log 2 : ℝ) : EReal) := by
  obtain ⟨w, hw⟩ := scale_real
  choose x0 h0 using h0
  choose x1 h1 using h1
  choose x2 h2 using h2
  choose x3 h3 using h3
  refine ⟨fun k => ((∑ e : Fin 64, x0 (ix4 b q h e) * x2 (ix4 b k h e)) + ∑ e : Fin 32, x3 (ix3 b k e) * x1 (ix4 b q h e)) * w, fun k => ⟨?_, ?_⟩⟩
  · rw [Cert.ReferenceIdeal.Att.rsc_at, hw]
    simp only [h0, h1, h2, h3, ← EReal.coe_mul, Cert.Online.sum_real, ← EReal.coe_add]
  · rw [sum128]
    simp only [pq_a, pq_b, pk_a, pk_b, pk_c, zero_mul, Finset.sum_const_zero, add_zero, cq_real w hw, h0, h1, h2, h3,
      ← EReal.coe_mul, Cert.Online.sum_real, ← EReal.coe_add]
    congr 1
    rw [add_mul, add_div, Finset.sum_mul, Finset.sum_mul, Finset.sum_div, Finset.sum_div]
    exact congrArg₂ (· + ·) (Finset.sum_congr rfl fun e _ => by ring) (Finset.sum_congr rfl fun e _ => by ring)
end Cert.KernelIdeal.Att

end

end
-- ==== Proof.Att.lean ====
module

public import proofs.«01_k».proof.Proof.Gen.KernelIdeal.Skeleton
public import Idealize.ShloMosaic.Lib.Exec
public import Idealize.ShloMosaic.Lib.Tactic
public import Idealize.ShloMosaic.Lib.VecWindow
public import Idealize.ShloMosaic.Lib.Pipeline.Kit
public import Idealize.ShloMosaic.Lib.Pipeline.ReadBack

/-! One trip of the kernel's loop over key tiles: eight tiles are scored into the scratch and eight
    scored tiles are folded into the running maximum and the running weighted sums. -/

@[expose] public section

set_option maxRecDepth 16384
set_option maxHeartbeats 4000000
noncomputable section
namespace Cert.KernelIdeal.Att
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
variable {F : FTy → Type} [FloatOps F]
local notation "𝕄G" => MT nD τ sig Unit (Elt F) ℕ (UR sig nD τ) ℕ

/-- The scores of a key tile against 512 queries, keys on the rows. -/
def sc (q : FVec F S512x128 .bf16) (k : FVec F S1x256x128 .bf16) : FVec F S256x512 .f32 :=
  matmul dot_S256x128_S512x128_S256x512_1_1_0_0_n_n none (shapeCast S256x128 k shapeCasts_S1x256x128_S256x128) q
    (constant S256x512 .f32 0x00000000#32)
/-- The scores in the scratch's shape. -/
def bf (q : FVec F S512x128 .bf16) (k : FVec F S1x256x128 .bf16) : FVec F S1x1x256x512 .f32 :=
  shapeCast S1x1x256x512 (sc q k) shapeCasts_S256x512_S1x1x256x512
/-- The largest score of the tile, per query. -/
def tm (q : FVec F S512x128 .bf16) (k : FVec F S1x256x128 .bf16) : FVec F S1x512 .f32 :=
  shapeCast S1x512 (multiReduction .maximumf [0] S512 (sc q k) 0xFF800000#32 reduces_S256x512_S512 (.inl rfl) rfl)
    shapeCasts_S512_S1x512
/-- The weighted sums after one more tile of scores `b` with values `v`, the maximum moving from `m` to `m'`. -/
def stp (m : FVec F S1x512 .f32) (a : FVec F S80x512 .f32) (m' : FVec F S1x512 .f32) (b : FVec F S1x1x256x512 .f32)
    (v : FVec F S1x1x1x80x256 .bf16) : FVec F S80x512 .f32 :=
  addf (mulf a (broadcastTo S80x512 (exp2 (subf m m')) broadcasts_S1x512_S80x512))
    (matmul dot_S80x256_S256x512_S80x512_1_0_0_1_n_n none (shapeCast S80x256 v shapeCasts_S1x1x1x80x256_S80x256)
      (truncf .bf16 (exp2 (subf (shapeCast S256x512 b shapeCasts_S1x1x256x512_S256x512)
        (broadcastTo S256x512 m' broadcasts_S1x512_S256x512))) bitsLt_bf16_f32)
      (constant S80x512 .f32 0x00000000#32))

/-- The running maximum after `n` key tiles. -/
def mx (q : FVec F S512x128 .bf16) (K : ℕ → FVec F S1x256x128 .bf16) : ℕ → FVec F S1x512 .f32
  | 0 => broadcast S1x512 (Scalar.ofBits .f32 0xFF800000#32)
  | n + 1 => maximumf (mx q K n) (tm q (K n))
/-- The running weighted sums after `n` key tiles. -/
def ac (q : FVec F S512x128 .bf16) (K : ℕ → FVec F S1x256x128 .bf16) (V : ℕ → FVec F S1x1x1x80x256 .bf16) :
    ℕ → FVec F S80x512 .f32
  | 0 => broadcast S80x512 (Scalar.ofBits .f32 0x00000000#32)
  | n + 1 => stp (mx q K n) (ac q K V n) (mx q K (n + 1)) (bf q (K n)) (V n)

theorem kt_inb (h : Fin 2) (n : ℕ) : ∀ a, (![0, 256 * (n % 32), 128 * h.val] : Fin 3 → ℕ) a + S1x256x128.size a ≤ S1x8192x256.size a := by
  intro a; have := h.isLt; fin_cases a
  · show 0 + 1 ≤ 1; omega
  · show 256 * (n % 32) + 256 ≤ 8192; omega
  · show 128 * h.val + 128 ≤ 256; omega
theorem vt_inb (h : Fin 2) (n : ℕ) : ∀ a, (![0, h.val, n % 32, 0, 0] : Fin 5 → ℕ) a + S1x1x1x80x256.size a ≤ S1x2x32x80x256.size a := by
  intro a; have := h.isLt; fin_cases a
  · show 0 + 1 ≤ 1; omega
  · show h.val + 1 ≤ 2; omega
  · show n % 32 + 1 ≤ 32; omega
  · show 0 + 80 ≤ 80; omega
  · show 0 + 256 ≤ 256; omega
/-- Key tile `n` of head `h` of a block of keys. -/
def kt (A : FVec F S1x8192x256 .bf16) (h : Fin 2) (n : ℕ) : FVec F S1x256x128 .bf16 :=
  VecWindow.window A ![0, 256 * (n % 32), 128 * h.val] S1x256x128.size (kt_inb h n)
/-- Value tile `n` of head `h` of a block of transposed values. -/
def vt (A : FVec F S1x2x32x80x256 .bf16) (h : Fin 2) (n : ℕ) : FVec F S1x1x1x80x256 .bf16 :=
  VecWindow.window A ![0, h.val, n % 32, 0, 0] S1x1x1x80x256.size (vt_inb h n)

/-- The loop's carried values before key tile `n`. -/
def st (q q' : FVec F S512x128 .bf16) (A : FVec F S1x8192x256 .bf16) (B : FVec F S1x2x32x80x256 .bf16) (n : ℕ) :
    FVec F S1x512 .f32 × FVec F S80x512 .f32 × FVec F S1x512 .f32 × FVec F S80x512 .f32 × FVec F S1x512 .f32 × FVec F S1x512 .f32 :=
  (mx q (kt A 0) n, ac q (kt A 0) (vt B 0) n, mx q' (kt A 1) n, ac q' (kt A 1) (vt B 1) n, tm q (kt A 0 n), tm q' (kt A 1 n))

/-- What the loop carries: the two scored tiles in the scratch's buffer `0` and the six carried values. -/
abbrev Car (F : FTy → Type) [FloatOps F] : Type := FVec F S1x1x256x512 .f32 × FVec F S1x1x256x512 .f32 ×
  FVec F S1x512 .f32 × FVec F S80x512 .f32 × FVec F S1x512 .f32 × FVec F S80x512 .f32 × FVec F S1x512 .f32 × FVec F S1x512 .f32

/-- Key tile `n` folded into the carried values, key tile `n + 1` scored. -/
def nx (q q' : FVec F S512x128 .bf16) (A : FVec F S1x8192x256 .bf16) (B : FVec F S1x2x32x80x256 .bf16) (n : ℕ) : Car F → Car F :=
  fun (b, b', m, a, m', a', t, t') =>
    (bf q (kt A 0 (n + 1)), bf q' (kt A 1 (n + 1)), maximumf m t, stp m a (maximumf m t) b (vt B 0 n),
      maximumf m' t', stp m' a' (maximumf m' t') b' (vt B 1 n), tm q (kt A 0 (n + 1)), tm q' (kt A 1 (n + 1)))
/-- What the loop carries before key tile `n`, from what it starts with. -/
def gn (q q' : FVec F S512x128 .bf16) (A : FVec F S1x8192x256 .bf16) (B : FVec F S1x2x32x80x256 .bf16) (s : Car F) : ℕ → Car F
  | 0 => s
  | n + 1 => nx q q' A B n (gn q q' A B s n)
/-- Started from the first tile's scores, the loop carries `st`. -/
theorem gn_st (q q' : FVec F S512x128 .bf16) (A : FVec F S1x8192x256 .bf16) (B : FVec F S1x2x32x80x256 .bf16) (n : ℕ) :
    gn q q' A B (bf q (kt A 0 0), bf q' (kt A 1 0), st q q' A B 0) n = (bf q (kt A 0 n), bf q' (kt A 1 n), st q q' A B n) := by
  induction n with
  | zero => rfl
  | succ n ih => rw [gn, ih]; rfl

section reads
variable {sig' : RefSig} {κ : Kind} {sp : Space} {s : Shape} {e : EltTy} {Val : EltTy → Type}
/-- A load through the newest write's own rectangle reads what that write stored. -/
theorem readAt_hit (v : View sig' κ sp s e) (f : v.ty.Contents Val) (r : Rect s) (w : r.shape.Idx → Val e)
    (L : List (View.Piece Val s e)) : v.readAt Val r.toLoadRect (v.writes Val f (⟨r, w⟩ :: L)) = w := by
  funext j
  rw [View.readAt_apply]
  exact View.read_writes_cons_emb v f r w L j
/-- A load apart from the newest write's rectangle reads the older writes. -/
theorem readAt_skip (v : View sig' κ sp s e) (f : v.ty.Contents Val) (r : Rect s) (w : r.shape.Idx → Val e)
    (L : List (View.Piece Val s e)) (B : LoadRect s) (h : LoadRect.disj r B = true) :
    v.readAt Val B (v.writes Val f (⟨r, w⟩ :: L)) = v.readAt Val B (v.writes Val f L) := by
  funext j
  have hj := LoadRect.idx_not_mem_of_disj h j
  rw [View.readAt_apply, View.readAt_apply, View.writes_cons,
    View.read_slice_write_of_not_mem r _ _ _ (by rwa [Rect.map_emb_univ])]
end reads

section tiles
variable (arg4 : Memref sig .tc .vmem S1x8192x256 .bf16) (arg5 : Memref sig .tc .vmem S1x2x32x80x256 .bf16)
  (X : BufTy.Contents (Elt F) arg4.view.ty) (Y : BufTy.Contents (Elt F) arg5.view.ty)
/-- A load of key rows `256 n …` of head `h`'s lanes is that key tile. -/
theorem read_kt (off : Fin 3 → ℕ) (inb : ∀ a, off a + S1x256x128.size a ≤ S1x8192x256.size a) (h : Fin 2) (n : ℕ) (hn : n < 32)
    (ho : off = ![0, 256 * n, 128 * h.val]) :
    View.readAt (Elt F) arg4.view (Rect.unit (s := S1x8192x256) off S1x256x128.size inb).toLoadRect X
      = kt (arg4.view.read (Elt F) X) h n :=
  View.readAt_unit _ _ _ (by rw [ho, Nat.mod_eq_of_lt hn]) _
/-- A load of value tile `n` of head `h` is that tile. -/
theorem read_vt (off : Fin 5 → ℕ) (inb : ∀ a, off a + S1x1x1x80x256.size a ≤ S1x2x32x80x256.size a) (h : Fin 2) (n : ℕ) (hn : n < 32)
    (ho : off = ![0, h.val, n, 0, 0]) :
    View.readAt (Elt F) arg5.view (Rect.unit (s := S1x2x32x80x256) off S1x1x1x80x256.size inb).toLoadRect Y
      = vt (arg5.view.read (Elt F) Y) h n :=
  View.readAt_unit _ _ _ (by rw [ho, Nat.mod_eq_of_lt hn]) _
variable (k : Fin k0_t2_loop.trips) (w : BitVec 32) (r : Fin 8) (hw : w = BitVec.ofNat 32 r.val) (n : ℕ)
include hw
theorem off5_kt (inb) (hn : n = 8 * k.val + r.val + 1) :
    View.readAt (Elt F) arg4.view (Rect.unit (s := S1x8192x256) (k0_off5 k w) S1x256x128.size inb).toLoadRect X
      = kt (arg4.view.read (Elt F) X) 0 n := by
  have hk : k.val < 3 := Nat.lt_of_lt_of_le k.isLt k0_t2_abs.2.1
  subst hw hn
  have e : 2048 * k.val + 256 * r.val + 256 = 256 * (8 * k.val + r.val + 1) := by omega
  exact read_kt _ _ _ _ _ _ (by omega) ((k0_off5_eq k r).trans (by rw [e]; rfl))
theorem off6_kt (inb) (hn : n = 8 * k.val + r.val + 1) :
    View.readAt (Elt F) arg4.view (Rect.unit (s := S1x8192x256) (k0_off6 k w) S1x256x128.size inb).toLoadRect X
      = kt (arg4.view.read (Elt F) X) 1 n := by
  have hk : k.val < 3 := Nat.lt_of_lt_of_le k.isLt k0_t2_abs.2.1
  subst hw hn
  have e : 2048 * k.val + 256 * r.val + 256 = 256 * (8 * k.val + r.val + 1) := by omega
  exact read_kt _ _ _ _ _ _ (by omega) ((k0_off6_eq k r).trans (by rw [e]; rfl))
theorem off7_vt (inb) (hn : n = 8 * k.val + r.val) :
    View.readAt (Elt F) arg5.view (Rect.unit (s := S1x2x32x80x256) (k0_off7 k w) S1x1x1x80x256.size inb).toLoadRect Y
      = vt (arg5.view.read (Elt F) Y) 0 n := by
  have hk : k.val < 3 := Nat.lt_of_lt_of_le k.isLt k0_t2_abs.2.1
  subst hw hn
  exact read_vt _ _ _ _ _ _ (by omega) (k0_off7_eq k r)
theorem off8_vt (inb) (hn : n = 8 * k.val + r.val) :
    View.readAt (Elt F) arg5.view (Rect.unit (s := S1x2x32x80x256) (k0_off8 k w) S1x1x1x80x256.size inb).toLoadRect Y
      = vt (arg5.view.read (Elt F) Y) 1 n := by
  have hk : k.val < 3 := Nat.lt_of_lt_of_le k.isLt k0_t2_abs.2.1
  subst hw hn
  exact read_vt _ _ _ _ _ _ (by omega) (k0_off8_eq k r)
end tiles

theorem trip (𝒱 : Variants) (c : Dev nD) (bd : Option 𝒱.V) (i : grid0.Coords) (arg3 : Memref sig .tc .vmem S1x2048x256 .bf16) (harg3 : arg3.IsWhole) (arg4 : Memref sig .tc .vmem S1x8192x256 .bf16) (harg4 : arg4.IsWhole) (arg5 : Memref sig .tc .vmem S1x2x32x80x256 .bf16) (harg5 : arg5.IsWhole) (arg6 : Memref sig .tc .vmem S1x2048x128 .bf16) (harg6 : arg6.IsWhole) (arg7 : Memref sig .tc .vmem S2x2x256x512 .f32) (harg7 : arg7.IsWhole)
  (q q' : FVec F S512x128 .bf16) (a : FVec F S1x512 .f32) (b : FVec F S80x512 .f32) (x : BitVec 32) (t : FVec F S1x512 .f32)
  (X_arg4 : BufTy.Contents (Elt F) arg4.view.ty) (X_arg5 : BufTy.Contents (Elt F) arg5.view.ty) (k : Fin k0_t2_loop.trips) (E : Set ℕ)
  (f_arg7 : BufTy.Contents (Elt F) arg7.view.ty)
  (s : Car F)
  (hf0 : View.readAt (Elt F) arg7.view (Rect.unit (s := S2x2x256x512) ![0, 0, 0, 0] S1x1x256x512.size inb_S2x2x256x512_S1x1x256x512_0_0_0_0).toLoadRect f_arg7
    = (gn q q' (arg4.view.read (Elt F) X_arg4) (arg5.view.read (Elt F) X_arg5) s (8 * k.val)).1)
  (hf1 : View.readAt (Elt F) arg7.view (Rect.unit (s := S2x2x256x512) ![0, 1, 0, 0] S1x1x256x512.size inb_S2x2x256x512_S1x1x256x512_0_1_0_0).toLoadRect f_arg7
    = (gn q q' (arg4.view.read (Elt F) X_arg4) (arg5.view.read (Elt F) X_arg5) s (8 * k.val)).2.1) :
      (iprop((arg4.view.loc (c : Thread nD τ) ↦[arg4.view.set]{fullShare} X_arg4) ∗ (arg5.view.loc (c : Thread nD τ) ↦[arg5.view.set]{fullShare} X_arg5) ∗ (arg7.view.loc (c : Thread nD τ) ↦[arg7.view.set]{fullShare} f_arg7)) : sProp 𝕄G)
      ⊢ wp frame (wpE (defs₀ (F := F)) 𝒱 (c : Thread nD τ) bd) E (k0_t2_body (F := F) i arg3 harg3 arg4 harg4 arg5 harg5 arg6 harg6 arg7 harg7 q q' a b x t k (gn q q' (arg4.view.read (Elt F) X_arg4) (arg5.view.read (Elt F) X_arg5) s (8 * k.val)).2.2)
          (fun yld => iprop((arg4.view.loc (c : Thread nD τ) ↦[arg4.view.set]{fullShare} X_arg4) ∗ (arg5.view.loc (c : Thread nD τ) ↦[arg5.view.set]{fullShare} X_arg5)
            ∗ (∃ f, (arg7.view.loc (c : Thread nD τ) ↦[arg7.view.set]{fullShare} f) ∗ ⌜View.readAt (Elt F) arg7.view (Rect.unit (s := S2x2x256x512) ![0, 0, 0, 0] S1x1x256x512.size inb_S2x2x256x512_S1x1x256x512_0_0_0_0).toLoadRect f
    = (gn q q' (arg4.view.read (Elt F) X_arg4) (arg5.view.read (Elt F) X_arg5) s (8 * (k.val + 1))).1⌝
              ∗ ⌜View.readAt (Elt F) arg7.view (Rect.unit (s := S2x2x256x512) ![0, 1, 0, 0] S1x1x256x512.size inb_S2x2x256x512_S1x1x256x512_0_1_0_0).toLoadRect f
    = (gn q q' (arg4.view.read (Elt F) X_arg4) (arg5.view.read (Elt F) X_arg5) s (8 * (k.val + 1))).2.1⌝)
            ∗ ⌜yld = (gn q q' (arg4.view.read (Elt F) X_arg4) (arg5.view.read (Elt F) X_arg5) s (8 * (k.val + 1))).2.2⌝)) := by
  have hk : k.val < 3 := Nat.lt_of_lt_of_le k.isLt k0_t2_abs.2.1
  obtain ⟨n₀, h0⟩ : ∃ n₀, 8 * k.val = n₀ := ⟨_, rfl⟩
  have e8 : 8 * (k.val + 1) = n₀ + 8 := by omega
  unfold k0_t2_body
  iintro ⟨HR_arg4, HR_arg5, HW_arg7⟩
  sl_exec
  sl_step
  isplitl [HR_arg4]; · iexact HR_arg4
  isplitl [HR_arg5]; · iexact HR_arg5
  isplitl [HW_arg7]
  · iexists _
    isplitl [HW_arg7]; · iexact HW_arg7
    isplit <;> ipureintro
    · rw [e8]
      delta trip.sl.HW_arg7_16
      rw [readAt_skip _ _ _ _ _ _ (by decide), readAt_hit]
      simp only [off5_kt arg4 X_arg4 k 7#32 7 rfl (n₀ + 8) _ (by simp; omega)]
      rfl
    · rw [e8]
      delta trip.sl.HW_arg7_16
      rw [readAt_hit]
      simp only [off6_kt arg4 X_arg4 k 7#32 7 rfl (n₀ + 8) _ (by simp; omega)]
      rfl
  · ipureintro
    rw [e8]
    delta
      trip.sl.r_47 trip.sl.r_27 trip.sl.v1864 trip.sl.r_23 trip.sl.r_16 trip.sl.arg8 trip.sl.HW_arg7_6 trip.sl.r_26
      trip.sl.r_53 trip.sl.r_57 trip.sl.v1713 trip.sl.r_10 trip.sl.r_13 trip.sl.v2084 trip.sl.HW_arg7_10 trip.sl.v1714
      trip.sl.r_24 trip.sl.HW_arg7_9 trip.sl.v1679 trip.sl.r_54 trip.sl.r_11 trip.sl.r_1 trip.sl.v2013 trip.sl.v1754
      trip.sl.r_39 trip.sl.v1848 trip.sl.v2009 trip.sl.HW_arg7_12 trip.sl.r_21 trip.sl.v1789 trip.sl.r_52 trip.sl.v1822
      trip.sl.r_44 trip.sl.r_45 trip.sl.v1809 trip.sl.v1919 trip.sl.r_48 trip.sl.r_9 trip.sl.v1738 trip.sl.r_15
      trip.sl.r_17 trip.sl.r_33 trip.sl.r_36 trip.sl.v2068 trip.sl.r_34 trip.sl.v1712 trip.sl.r_32 trip.sl.r_4
      trip.sl.r_19 trip.sl.r trip.sl.r_40 trip.sl.r_35 trip.sl.r_8 trip.sl.r_7 trip.sl.r_28 trip.sl.r_49
      trip.sl.v1656 trip.sl.r_30 trip.sl.r_6 trip.sl.r_18 trip.sl.r_31 trip.sl.r_22 trip.sl.HW_arg7_4 trip.sl.r_55
      trip.sl.r_58 trip.sl.r_42 trip.sl.r_29 trip.sl.r_20 trip.sl.r_38 trip.sl.v2064 trip.sl.HW_arg7_14 trip.sl.r_14
      trip.sl.r_41 trip.sl.HW_arg7_8 trip.sl.r_43 trip.sl.r_37 trip.sl.r_50 trip.sl.v1958 trip.sl.r_5 trip.sl.v1974
      trip.sl.r_3 trip.sl.v1932 trip.sl.r_2 trip.sl.r_12 trip.sl.r_51 trip.sl.r_46 trip.sl.HW_arg7_16 trip.sl.r_56
      trip.sl.v1894 trip.sl.r_25 trip.sl.v1823 trip.sl.v1824 trip.sl.v1793 trip.sl.v1903 trip.sl.v2029
    simp (disch := decide) only [View.readCov_skip, View.readCov_cons_toLoadRect, hf0, hf1,
      off5_kt arg4 X_arg4 k 0#32 0 rfl (n₀ + 1) _ (by simp; omega), off6_kt arg4 X_arg4 k 0#32 0 rfl (n₀ + 1) _ (by simp; omega),
      off7_vt arg5 X_arg5 k 0#32 0 rfl (n₀) _ (by simp; omega), off8_vt arg5 X_arg5 k 0#32 0 rfl (n₀) _ (by simp; omega),
      off5_kt arg4 X_arg4 k 1#32 1 rfl (n₀ + 2) _ (by simp; omega), off6_kt arg4 X_arg4 k 1#32 1 rfl (n₀ + 2) _ (by simp; omega),
      off7_vt arg5 X_arg5 k 1#32 1 rfl (n₀ + 1) _ (by simp; omega), off8_vt arg5 X_arg5 k 1#32 1 rfl (n₀ + 1) _ (by simp; omega),
      off5_kt arg4 X_arg4 k 2#32 2 rfl (n₀ + 3) _ (by simp; omega), off6_kt arg4 X_arg4 k 2#32 2 rfl (n₀ + 3) _ (by simp; omega),
      off7_vt arg5 X_arg5 k 2#32 2 rfl (n₀ + 2) _ (by simp; omega), off8_vt arg5 X_arg5 k 2#32 2 rfl (n₀ + 2) _ (by simp; omega),
      off5_kt arg4 X_arg4 k 3#32 3 rfl (n₀ + 4) _ (by simp; omega), off6_kt arg4 X_arg4 k 3#32 3 rfl (n₀ + 4) _ (by simp; omega),
      off7_vt arg5 X_arg5 k 3#32 3 rfl (n₀ + 3) _ (by simp; omega), off8_vt arg5 X_arg5 k 3#32 3 rfl (n₀ + 3) _ (by simp; omega),
      off5_kt arg4 X_arg4 k 4#32 4 rfl (n₀ + 5) _ (by simp; omega), off6_kt arg4 X_arg4 k 4#32 4 rfl (n₀ + 5) _ (by simp; omega),
      off7_vt arg5 X_arg5 k 4#32 4 rfl (n₀ + 4) _ (by simp; omega), off8_vt arg5 X_arg5 k 4#32 4 rfl (n₀ + 4) _ (by simp; omega),
      off5_kt arg4 X_arg4 k 5#32 5 rfl (n₀ + 6) _ (by simp; omega), off6_kt arg4 X_arg4 k 5#32 5 rfl (n₀ + 6) _ (by simp; omega),
      off7_vt arg5 X_arg5 k 5#32 5 rfl (n₀ + 5) _ (by simp; omega), off8_vt arg5 X_arg5 k 5#32 5 rfl (n₀ + 5) _ (by simp; omega),
      off5_kt arg4 X_arg4 k 6#32 6 rfl (n₀ + 7) _ (by simp; omega), off6_kt arg4 X_arg4 k 6#32 6 rfl (n₀ + 7) _ (by simp; omega),
      off7_vt arg5 X_arg5 k 6#32 6 rfl (n₀ + 6) _ (by simp; omega), off8_vt arg5 X_arg5 k 6#32 6 rfl (n₀ + 6) _ (by simp; omega),
      off5_kt arg4 X_arg4 k 7#32 7 rfl (n₀ + 8) _ (by simp; omega), off6_kt arg4 X_arg4 k 7#32 7 rfl (n₀ + 8) _ (by simp; omega),
      off7_vt arg5 X_arg5 k 7#32 7 rfl (n₀ + 7) _ (by simp; omega), off8_vt arg5 X_arg5 k 7#32 7 rfl (n₀ + 7) _ (by simp; omega)]
    rw [h0]
    simp only [gn]
    generalize gn q q' (arg4.view.read (Elt F) X_arg4) (arg5.view.read (Elt F) X_arg5) s n₀ = z
    obtain ⟨b0, b1, m0, a0, m1, a1, t0, t1⟩ := z
    simp only [nx, Nat.add_assoc, Nat.reduceAdd]
    rfl
end Cert.KernelIdeal.Att

end

end
-- ==== Proof.Body.lean ====
module

public import proofs.«01_k».proof.Proof.Att

/-! The kernel's body: four blocks of 512 queries, each against all 32 key tiles for two heads. -/

@[expose] public section

set_option maxRecDepth 16384
set_option maxHeartbeats 8000000
noncomputable section
namespace Cert.KernelIdeal.Att
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
variable {F : FTy → Type} [FloatOps F]
local notation "𝕄G" => MT nD τ sig Unit (Elt F) ℕ (UR sig nD τ) ℕ

/-- The loop's invariant: keys and values as they are, the scratch's buffer `0` and the carried values at `gn`. -/
abbrev inv (c : Dev nD) (arg4 : Memref sig .tc .vmem S1x8192x256 .bf16) (arg5 : Memref sig .tc .vmem S1x2x32x80x256 .bf16) (arg7 : Memref sig .tc .vmem S2x2x256x512 .f32)
    (q q' : FVec F S512x128 .bf16) (X : BufTy.Contents (Elt F) arg4.view.ty) (Y : BufTy.Contents (Elt F) arg5.view.ty)
    (b b' : FVec F S1x1x256x512 .f32) (init : FVec F S1x512 .f32 × FVec F S80x512 .f32 × FVec F S1x512 .f32 × FVec F S80x512 .f32 × FVec F S1x512 .f32 × FVec F S1x512 .f32)
    (k : ℕ) (acc : FVec F S1x512 .f32 × FVec F S80x512 .f32 × FVec F S1x512 .f32 × FVec F S80x512 .f32 × FVec F S1x512 .f32 × FVec F S1x512 .f32) : sProp 𝕄G :=
  iprop((arg4.view.loc (c : Thread nD τ) ↦[arg4.view.set]{fullShare} X) ∗ (arg5.view.loc (c : Thread nD τ) ↦[arg5.view.set]{fullShare} Y)
    ∗ (∃ f, (arg7.view.loc (c : Thread nD τ) ↦[arg7.view.set]{fullShare} f)
      ∗ ⌜View.readAt (Elt F) arg7.view (Rect.unit (s := S2x2x256x512) ![0, 0, 0, 0] S1x1x256x512.size inb_S2x2x256x512_S1x1x256x512_0_0_0_0).toLoadRect f
          = (gn q q' (arg4.view.read (Elt F) X) (arg5.view.read (Elt F) Y) (b, b', init) (8 * k)).1⌝
      ∗ ⌜View.readAt (Elt F) arg7.view (Rect.unit (s := S2x2x256x512) ![0, 1, 0, 0] S1x1x256x512.size inb_S2x2x256x512_S1x1x256x512_0_1_0_0).toLoadRect f
          = (gn q q' (arg4.view.read (Elt F) X) (arg5.view.read (Elt F) Y) (b, b', init) (8 * k)).2.1⌝)
    ∗ ⌜acc = (gn q q' (arg4.view.read (Elt F) X) (arg5.view.read (Elt F) Y) (b, b', init) (8 * k)).2.2⌝)

section loops
variable (𝒱 : Variants) (c : Dev nD) (bd : Option 𝒱.V) (E : Set ℕ) (i : grid0.Coords) (arg3 : Memref sig .tc .vmem S1x2048x256 .bf16) (harg3 : arg3.IsWhole) (arg4 : Memref sig .tc .vmem S1x8192x256 .bf16) (harg4 : arg4.IsWhole) (arg5 : Memref sig .tc .vmem S1x2x32x80x256 .bf16) (harg5 : arg5.IsWhole) (arg6 : Memref sig .tc .vmem S1x2048x128 .bf16) (harg6 : arg6.IsWhole) (arg7 : Memref sig .tc .vmem S2x2x256x512 .f32) (harg7 : arg7.IsWhole)
  (v0 v2 : Vec F S1x512x128 .bf16)
  (q q' : FVec F S512x128 .bf16) (a : FVec F S1x512 .f32) (b : FVec F S80x512 .f32) (x : BitVec 32) (t : FVec F S1x512 .f32) (cst : F .f32) (u : FVec F S512 .f32)

theorem body1 : k0_t1_body i arg3 harg3 arg4 harg4 arg5 harg5 arg6 harg6 arg7 harg7 v0 v2 = k0_t2_body i arg3 harg3 arg4 harg4 arg5 harg5 arg6 harg6 arg7 harg7 (k0_pay358 v0) (k0_pay359 v2) a b x t := rfl
theorem body3 : k0_t3_body i arg3 harg3 arg4 harg4 arg5 harg5 arg6 harg6 arg7 harg7 q q' a cst = k0_t2_body i arg3 harg3 arg4 harg4 arg5 harg5 arg6 harg6 arg7 harg7 q q' a b x t := rfl
theorem body4 : k0_t4_body i arg3 harg3 arg4 harg4 arg5 harg5 arg6 harg6 arg7 harg7 q q' a b t u = k0_t2_body i arg3 harg3 arg4 harg4 arg5 harg5 arg6 harg6 arg7 harg7 q q' a b x t := rfl

/-- One trip keeps the invariant. -/
theorem inv_step (X : BufTy.Contents (Elt F) arg4.view.ty) (Y : BufTy.Contents (Elt F) arg5.view.ty) (b0 b1 : FVec F S1x1x256x512 .f32)
    (init acc : FVec F S1x512 .f32 × FVec F S80x512 .f32 × FVec F S1x512 .f32 × FVec F S80x512 .f32 × FVec F S1x512 .f32 × FVec F S1x512 .f32)
    (k : Fin k0_t2_loop.trips) :
    inv c arg4 arg5 arg7 q q' X Y b0 b1 init k.val acc
    ⊢ wp frame (wpE (defs₀ (F := F)) 𝒱 (c : Thread nD τ) bd) E (k0_t2_body (F := F) i arg3 harg3 arg4 harg4 arg5 harg5 arg6 harg6 arg7 harg7 q q' a b x t k acc)
      (fun yld => inv c arg4 arg5 arg7 q q' X Y b0 b1 init (k.val + 1) yld) := by
  iintro ⟨H4, H5, ⟨%f, H7, %h0, %h1⟩, %hacc⟩
  subst hacc
  iapply (trip 𝒱 c bd i arg3 harg3 arg4 harg4 arg5 harg5 arg6 harg6 arg7 harg7 q q' a b x t X Y k E f (b0, b1, init) h0 h1)
  isplitl [H4]; · iexact H4
  isplitl [H5]; · iexact H5
  iexact H7

variable (init : FVec F S1x512 .f32 × FVec F S80x512 .f32 × FVec F S1x512 .f32 × FVec F S80x512 .f32 × FVec F S1x512 .f32 × FVec F S1x512 .f32)
  (X : BufTy.Contents (Elt F) arg4.view.ty) (Y : BufTy.Contents (Elt F) arg5.view.ty) (b0 b1 : FVec F S1x1x256x512 .f32)

set_option warn.classDefReducibility false in
@[sl_loop] def loop1 : LoopInv (M := 𝕄G) Idealize.ShloMosaic.frame (wpE (defs₀ (F := F)) 𝒱 (c : Thread nD τ) bd) E
    k0_t1_loop.lb k0_t1_loop.ub k0_t1_loop.st k0_t1_ok init (k0_t1_body (F := F) i arg3 harg3 arg4 harg4 arg5 harg5 arg6 harg6 arg7 harg7 v0 v2) where
  inv := inv c arg4 arg5 arg7 (k0_pay358 v0) (k0_pay359 v2) X Y b0 b1 init
  step k acc := by
    rw [body1 (F := F) i arg3 harg3 arg4 harg4 arg5 harg5 arg6 harg6 arg7 harg7 v0 v2 (k0_pay360 (F := F)) (k0_pay361 (F := F)) 0#32 (k0_pay360 (F := F))]
    exact inv_step 𝒱 c bd E i arg3 harg3 arg4 harg4 arg5 harg5 arg6 harg6 arg7 harg7 (k0_pay358 v0) (k0_pay359 v2) (k0_pay360 (F := F)) (k0_pay361 (F := F)) 0#32 (k0_pay360 (F := F)) X Y b0 b1 init acc k

set_option warn.classDefReducibility false in
@[sl_loop] def loop2 : LoopInv (M := 𝕄G) Idealize.ShloMosaic.frame (wpE (defs₀ (F := F)) 𝒱 (c : Thread nD τ) bd) E
    k0_t2_loop.lb k0_t2_loop.ub k0_t2_loop.st k0_t2_ok init (k0_t2_body (F := F) i arg3 harg3 arg4 harg4 arg5 harg5 arg6 harg6 arg7 harg7 q q' a b x t) where
  inv := inv c arg4 arg5 arg7 q q' X Y b0 b1 init
  step k acc := inv_step 𝒱 c bd E i arg3 harg3 arg4 harg4 arg5 harg5 arg6 harg6 arg7 harg7 q q' a b x t X Y b0 b1 init acc k

set_option warn.classDefReducibility false in
@[sl_loop] def loop3 : LoopInv (M := 𝕄G) Idealize.ShloMosaic.frame (wpE (defs₀ (F := F)) 𝒱 (c : Thread nD τ) bd) E
    k0_t3_loop.lb k0_t3_loop.ub k0_t3_loop.st k0_t3_ok init (k0_t3_body (F := F) i arg3 harg3 arg4 harg4 arg5 harg5 arg6 harg6 arg7 harg7 q q' a cst) where
  inv := inv c arg4 arg5 arg7 q q' X Y b0 b1 init
  step k acc := by
    rw [body3 (F := F) i arg3 harg3 arg4 harg4 arg5 harg5 arg6 harg6 arg7 harg7 q q' a (k0_pay361 (F := F)) 0#32 a cst]
    exact inv_step 𝒱 c bd E i arg3 harg3 arg4 harg4 arg5 harg5 arg6 harg6 arg7 harg7 q q' a (k0_pay361 (F := F)) 0#32 a X Y b0 b1 init acc k

set_option warn.classDefReducibility false in
@[sl_loop] def loop4 : LoopInv (M := 𝕄G) Idealize.ShloMosaic.frame (wpE (defs₀ (F := F)) 𝒱 (c : Thread nD τ) bd) E
    k0_t4_loop.lb k0_t4_loop.ub k0_t4_loop.st k0_t4_ok init (k0_t4_body (F := F) i arg3 harg3 arg4 harg4 arg5 harg5 arg6 harg6 arg7 harg7 q q' a b t u) where
  inv := inv c arg4 arg5 arg7 q q' X Y b0 b1 init
  step k acc := by
    rw [body4 (F := F) i arg3 harg3 arg4 harg4 arg5 harg5 arg6 harg6 arg7 harg7 q q' a b 0#32 t u]
    exact inv_step 𝒱 c bd E i arg3 harg3 arg4 harg4 arg5 harg5 arg6 harg6 arg7 harg7 q q' a b 0#32 t X Y b0 b1 init acc k
end loops
end Cert.KernelIdeal.Att

end

end
-- ==== Proof.Run.lean ====
module

public import proofs.«01_k».proof.Proof.Body

/-! The whole body. -/

@[expose] public section

set_option maxRecDepth 16384
set_option maxHeartbeats 8000000
noncomputable section
namespace Cert.KernelIdeal.Att
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
variable {F : FTy → Type} [FloatOps F]
local notation "𝕄G" => MT nD τ sig Unit (Elt F) ℕ (UR sig nD τ) ℕ

/-- Queries `512 s …` of head `h`. -/
def qh (Q : FVec F S1x2048x256 .bf16) (s : Fin 4) (h : Fin 2) : FVec F S512x128 .bf16 :=
  shapeCast S512x128 (VecWindow.window Q ![0, 512 * s.val, 128 * h.val] S1x512x128.size (by
    have := s.isLt; have := h.isLt
    intro a; fin_cases a <;> simp [S1x512x128, S1x2048x256] <;> omega)) shapeCasts_S1x512x128_S512x128
theorem read_qh (arg3 : Memref sig .tc .vmem S1x2048x256 .bf16) (X : BufTy.Contents (Elt F) arg3.view.ty)
    (off : Fin 3 → ℕ) (inb : ∀ a, off a + S1x512x128.size a ≤ S1x2048x256.size a) (s : Fin 4) (h : Fin 2)
    (ho : off = ![0, 512 * s.val, 128 * h.val]) :
    shapeCast S512x128 (View.readAt (Elt F) arg3.view (Rect.unit (s := S1x2048x256) off S1x512x128.size inb).toLoadRect X) shapeCasts_S1x512x128_S512x128
      = qh (arg3.view.read (Elt F) X) s h :=
  congrArg (fun w => shapeCast S512x128 w shapeCasts_S1x512x128_S512x128) (View.readAt_unit _ _ _ ho _)

/-- The weighted sums of two heads divided by their weights' sums, as a block of the result. -/
def fin (a a' : FVec F S80x512 .f32) : FVec F S1x512x128 .bf16 :=
  shapeCast S1x512x128 (truncf .bf16 (transpose S512x128 [1, 0]
    (concatenate S128x512 0 [
      ⟨S64x512, divf (extractStridedSlice S64x512 ![0, 0] a slices_S80x512_o0_0_S64x512)
        (broadcastTo S64x512 (extractStridedSlice S1x512 ![64, 0] a slices_S80x512_o64_0_S1x512) broadcasts_S1x512_S64x512)⟩,
      ⟨S64x512, divf (extractStridedSlice S64x512 ![0, 0] a' slices_S80x512_o0_0_S64x512)
        (broadcastTo S64x512 (extractStridedSlice S1x512 ![64, 0] a' slices_S80x512_o64_0_S1x512) broadcasts_S1x512_S64x512)⟩]
      concatenates_S64x512_S64x512_S128x512_d0) transposes_S128x512_p1_0_S512x128) bitsLt_bf16_f32) shapeCasts_S512x128_S1x512x128

/-- Block `s` of the result. -/
def outp (Q : FVec F S1x2048x256 .bf16) (A : FVec F S1x8192x256 .bf16) (B : FVec F S1x2x32x80x256 .bf16) (s : Fin 4) : FVec F S1x512x128 .bf16 :=
  fin (ac (qh Q s 0) (kt A 0) (vt B 0) 32) (ac (qh Q s 1) (kt A 1) (vt B 1) 32)

theorem writes4 {s : Shape} {e : EltTy} (v : View sig .tc .vmem s e) (f : v.ty.Contents (Elt F)) (r0 r1 r2 r3 : Rect s)
    {a0 b0 : r0.shape.Idx → Elt F e} {a1 b1 : r1.shape.Idx → Elt F e} {a2 b2 : r2.shape.Idx → Elt F e} {a3 b3 : r3.shape.Idx → Elt F e}
    (h0 : a0 = b0) (h1 : a1 = b1) (h2 : a2 = b2) (h3 : a3 = b3) :
    v.writes (Elt F) f [⟨r3, a3⟩, ⟨r2, a2⟩, ⟨r1, a1⟩, ⟨r0, a0⟩] = v.writes (Elt F) f [⟨r3, b3⟩, ⟨r2, b2⟩, ⟨r1, b1⟩, ⟨r0, b0⟩] := by
  rw [h0, h1, h2, h3]

section
variable (arg4 : Memref sig .tc .vmem S1x8192x256 .bf16) (arg5 : Memref sig .tc .vmem S1x2x32x80x256 .bf16)
  (X : BufTy.Contents (Elt F) arg4.view.ty) (Y : BufTy.Contents (Elt F) arg5.view.ty)
theorem gn_start (q q' : FVec F S512x128 .bf16) (n : ℕ) (b0 b1 init)
    (h0 : b0 = bf q (View.readAt (Elt F) arg4.view (Rect.unit (s := S1x8192x256) ![0, 0, 0] S1x256x128.size inb_S1x8192x256_S1x256x128_0_0_0).toLoadRect X))
    (h1 : b1 = bf q' (View.readAt (Elt F) arg4.view (Rect.unit (s := S1x8192x256) ![0, 0, 128] S1x256x128.size inb_S1x8192x256_S1x256x128_0_0_128).toLoadRect X))
    (hi : init = (broadcast S1x512 (Scalar.ofBits .f32 0xFF800000#32), broadcast S80x512 (Scalar.ofBits .f32 0x00000000#32), broadcast S1x512 (Scalar.ofBits .f32 0xFF800000#32), broadcast S80x512 (Scalar.ofBits .f32 0x00000000#32),
      tm q (View.readAt (Elt F) arg4.view (Rect.unit (s := S1x8192x256) ![0, 0, 0] S1x256x128.size inb_S1x8192x256_S1x256x128_0_0_0).toLoadRect X),
      tm q' (View.readAt (Elt F) arg4.view (Rect.unit (s := S1x8192x256) ![0, 0, 128] S1x256x128.size inb_S1x8192x256_S1x256x128_0_0_128).toLoadRect X))) :
    gn q q' (arg4.view.read (Elt F) X) (arg5.view.read (Elt F) Y) (b0, b1, init) n
      = (bf q (kt (arg4.view.read (Elt F) X) 0 n), bf q' (kt (arg4.view.read (Elt F) X) 1 n), st q q' (arg4.view.read (Elt F) X) (arg5.view.read (Elt F) Y) n) := by
  have k0 := read_kt arg4 X ![0, 0, 0] inb_S1x8192x256_S1x256x128_0_0_0 0 0 (by decide) rfl
  have k1 := read_kt arg4 X ![0, 0, 128] inb_S1x8192x256_S1x256x128_0_0_128 1 0 (by decide) rfl
  rw [h0, h1, hi, k0, k1, ← gn_st]
  rfl
end
theorem body (𝒱 : Variants) (c : Dev nD) (bd : Option 𝒱.V) (E : Set ℕ) (i : grid0.Coords) (arg3 : Memref sig .tc .vmem S1x2048x256 .bf16) (harg3 : arg3.IsWhole) (arg4 : Memref sig .tc .vmem S1x8192x256 .bf16) (harg4 : arg4.IsWhole) (arg5 : Memref sig .tc .vmem S1x2x32x80x256 .bf16) (harg5 : arg5.IsWhole) (arg6 : Memref sig .tc .vmem S1x2048x128 .bf16) (harg6 : arg6.IsWhole) (arg7 : Memref sig .tc .vmem S2x2x256x512 .f32) (harg7 : arg7.IsWhole)
  (X_arg3 : BufTy.Contents (Elt F) arg3.view.ty) (X_arg4 : BufTy.Contents (Elt F) arg4.view.ty) (X_arg5 : BufTy.Contents (Elt F) arg5.view.ty)
  (f_arg6 : BufTy.Contents (Elt F) arg6.view.ty) (f_arg7 : BufTy.Contents (Elt F) arg7.view.ty) :
      (iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} f_arg6) ∗ (arg7.view.loc (c : Thread nD τ) ↦[arg7.view.set]{fullShare} f_arg7)) : sProp 𝕄G)
      ⊢ wp frame (wpE (defs₀ (F := F)) 𝒱 (c : Thread nD τ) bd) E (cc0_mla_attn (F := F) i arg3 harg3 arg4 harg4 arg5 harg5 arg6 harg6 arg7 harg7)
          (fun _ => iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5)
            ∗ (∃ f, (arg6.view.loc (c : Thread nD τ) ↦[arg6.view.set]{fullShare} f) ∗ ⌜f = arg6.view.writes (Elt F) f_arg6
      [⟨Rect.unit (s := S1x2048x128) ![0, 1536, 0] S1x512x128.size inb_S1x2048x128_S1x512x128_0_1536_0, outp (arg3.view.read (Elt F) X_arg3) (arg4.view.read (Elt F) X_arg4) (arg5.view.read (Elt F) X_arg5) 3⟩,
        ⟨Rect.unit (s := S1x2048x128) ![0, 1024, 0] S1x512x128.size inb_S1x2048x128_S1x512x128_0_1024_0, outp (arg3.view.read (Elt F) X_arg3) (arg4.view.read (Elt F) X_arg4) (arg5.view.read (Elt F) X_arg5) 2⟩,
        ⟨Rect.unit (s := S1x2048x128) ![0, 512, 0] S1x512x128.size inb_S1x2048x128_S1x512x128_0_512_0, outp (arg3.view.read (Elt F) X_arg3) (arg4.view.read (Elt F) X_arg4) (arg5.view.read (Elt F) X_arg5) 1⟩,
        ⟨Rect.unit (s := S1x2048x128) ![0, 0, 0] S1x512x128.size inb_S1x2048x128_S1x512x128_0_0_0, outp (arg3.view.read (Elt F) X_arg3) (arg4.view.read (Elt F) X_arg4) (arg5.view.read (Elt F) X_arg5) 0⟩]⌝)
            ∗ (∃ f, (arg7.view.loc (c : Thread nD τ) ↦[arg7.view.set]{fullShare} f)))) := by
  rw [cc0_mla_attn_eq_skeleton]
  unfold cc0_mla_attn_skel
  iintro ⟨HR_arg3, HR_arg4, HR_arg5, HW_arg6, HW_arg7⟩
  sl_exec
  sl_step
  isplitl [HR_arg3]; · iexact HR_arg3
  isplitl [HR_arg4]; · iexact HR_arg4
  isplitl [HR_arg5]; · iexact HR_arg5
  isplitl [HW_arg6]
  · iexists _
    isplitl [HW_arg6]; · iexact HW_arg6
    ipureintro
    refine writes4 _ _ _ _ _ _ ?_ ?_ ?_ ?_
    · delta body.sl.r_147 body.sl.r_42 body.sl.r_136 body.sl.r_29 body.sl.r_174 body.sl.r_20 body.sl.v926 body.sl.r_244 body.sl.r_162 body.sl.r_36 body.sl.r_171 body.sl.r_124 body.sl.r_33 body.sl.HW_arg7_4_3 body.sl.r_133 body.sl.v1201 body.sl.r_180 body.sl.v1088 body.sl.r_68 body.sl.r_148 body.sl.v1340 body.sl.r_216 body.sl.r_89 body.sl.r_146 body.sl.r_106 body.sl.r_186 body.sl.HW_arg7_12_1 body.sl.r_91 body.sl.v990 body.sl.HW_arg7_10_2 body.sl.r_240 body.sl.r_257 body.sl.r_242 body.sl.v1453 body.sl.v723 body.sl.r_199 body.sl.r_251 body.sl.r_187 body.sl.r_94 body.sl.r_193 body.sl.r_19 body.sl.r body.sl.r_102 body.sl.r_97 body.sl.r_4 body.sl.r_32 body.sl.r_248 body.sl.r_196 body.sl.r_43 body.sl.r_41 body.sl.v1171 body.sl.r_122 body.sl.r_90 body.sl.HW_arg7_8 body.sl.r_245 body.sl.r_78 body.sl.r_167 body.sl.r_7 body.sl.v1355 body.sl.r_28 body.sl.r_201 body.sl.r_49 body.sl.r_230 body.sl.r_194 body.sl.r_112 body.sl.r_60 body.sl.r_224 body.sl.HW_arg7_8_3 body.sl.r_228 body.sl.r_140 body.sl.r_3 body.sl.r_130 body.sl.r_255 body.sl.r_119 body.sl.r_100 body.sl.v757 body.sl.v373 body.sl.HW_arg7_6_3 body.sl.v309 body.sl.r_142 body.sl.r_225 body.sl.r_184 body.sl.r_235 body.sl.r_181 body.sl.r_30 body.sl.r_188 body.sl.r_227 body.sl.r_114 body.sl.r_104 body.sl.r_6 body.sl.r_172 body.sl.v1073 body.sl.r_56 body.sl.r_151 body.sl.r_51 body.sl.v1536 body.sl.r_215 body.sl.r_12 body.sl.r_46 body.sl.HW_arg7_16 body.sl.r_202 body.sl.r_74 body.sl.r_241 body.sl.r_58 body.sl.r_86 body.sl.v1389 body.sl.r_55 body.sl.r_139 body.sl.r_108 body.sl.cst_605 body.sl.r_190 body.sl.HW_arg7_4 body.sl.v211 body.sl.r_85 body.sl.r_246 body.sl.r_263 body.sl.v674 body.sl.v358 body.sl.v1600 body.sl.r_237 body.sl.r_236 body.sl.r_158 body.sl.HW_arg7_4_2 body.sl.r_222 body.sl.r_70 body.sl.HW_arg7_4_1 body.sl.r_123 body.sl.r_38 body.sl.r_115 body.sl.r_262 body.sl.v245 body.sl.r_64 body.sl.r_107 body.sl.r_77 body.sl.r_165 body.sl.r_26 body.sl.HW_arg7_6 body.sl.v1487 body.sl.r_53 body.sl.r_176 body.sl.r_73 body.sl.r_212 body.sl.r_57 body.sl.v1630 body.sl.r_14 body.sl.HW_arg7_14 body.sl.HW_arg7_12_2 body.sl.r_261 body.sl.r_189 body.sl.r_83 body.sl.r_191 body.sl.r_84 body.sl.r_103 body.sl.v98 body.sl.r_192 body.sl.v512 body.sl.v610 body.sl.r_117 body.sl.r_185 body.sl.r_134 body.sl.HW_arg7_10 body.sl.r_220 body.sl.r_37 body.sl.r_61 body.sl.v1122 body.sl.v196 body.sl.r_79 body.sl.r_221 body.sl.r_132 body.sl.r_160 body.sl.r_50 body.sl.r_5 body.sl.r_163 body.sl.r_1 body.sl.r_177 body.sl.v343 body.sl.r_229 body.sl.r_11 body.sl.r_145 body.sl.r_88 body.sl.v802 body.sl.v941 body.sl.HW_arg7_8_1 body.sl.r_69 body.sl.r_250 body.sl.r_150 body.sl.HW_arg7_14_3 body.sl.HW_arg7_16_1 body.sl.r_2 body.sl.r_254 body.sl.r_208 body.sl.r_152 body.sl.r_101 body.sl.v1216 body.sl.r_141 body.sl.r_238 body.sl.r_144 body.sl.r_125 body.sl.r_156 body.sl.r_98 body.sl.r_206 body.sl.v1186 body.sl.r_92 body.sl.r_203 body.sl.r_157 body.sl.r_21 body.sl.HW_arg7_12 body.sl.r_126 body.sl.r_210 body.sl.v113 body.sl.cst_1111 body.sl.r_25 body.sl.r_258 body.sl.r_214 body.sl.r_218 body.sl.v388 body.sl.v1404 body.sl.r_204 body.sl.r_161 body.sl.r_169 body.sl.v659 body.sl.r_247 body.sl.r_52 body.sl.v162 body.sl.r_99 body.sl.r_232 body.sl.r_211 body.sl.r_67 body.sl.HW_arg7_14_2 body.sl.r_252 body.sl.v1137 body.sl.r_256 body.sl.r_27 body.sl.r_62 body.sl.r_164 body.sl.r_205 body.sl.v625 body.sl.r_23 body.sl.v1615 body.sl.r_16 body.sl.r_47 body.sl.v147 body.sl.r_48 body.sl.r_154 body.sl.r_82 body.sl.r_15 body.sl.r_195 body.sl.r_17 body.sl.r_109 body.sl.r_9 body.sl.HW_arg7_14_1 body.sl.r_239 body.sl.v576 body.sl.r_159 body.sl.v561 body.sl.r_10 body.sl.r_13 body.sl.r_183 body.sl.HW_arg7_10_1 body.sl.r_260 body.sl.r_95 body.sl.r_173 body.sl.v260 body.sl.r_129 body.sl.r_143 body.sl.HW_arg7_8_2 body.sl.HW_arg7_6_2 body.sl.v1502 body.sl.r_131 body.sl.r_34 body.sl.r_219 body.sl.r_249 body.sl.r_182 body.sl.r_59 body.sl.r_259 body.sl.v1024 body.sl.r_24 body.sl.r_54 body.sl.r_120 body.sl.r_113 body.sl.r_178 body.sl.v294 body.sl.r_116 body.sl.r_137 body.sl.v1438 body.sl.r_81 body.sl.r_175 body.sl.r_234 body.sl.r_231 body.sl.r_207 body.sl.r_111 body.sl.r_35 body.sl.r_71 body.sl.r_233 body.sl.r_8 body.sl.r_40 body.sl.HW_arg7_12_3 body.sl.r_197 body.sl.r_66 body.sl.r_128 body.sl.r_226 body.sl.HW_arg7_10_3 body.sl.v1551 body.sl.v1585 body.sl.r_39 body.sl.r_223 body.sl.r_253 body.sl.v787 body.sl.r_243 body.sl.r_63 body.sl.v772 body.sl.r_127 body.sl.HW_arg7_6_1 body.sl.r_118 body.sl.r_72 body.sl.r_168 body.sl.r_149 body.sl.HW_arg7_16_2 body.sl.v975 body.sl.r_96 body.sl.r_135 body.sl.r_138 body.sl.r_200 body.sl.r_93 body.sl.r_76 body.sl.r_22 body.sl.r_80 body.sl.v708 body.sl.r_121 body.sl.r_65 body.sl.r_18 body.sl.r_209 body.sl.r_155 body.sl.r_170 body.sl.r_31 body.sl.r_110 body.sl.r_105 body.sl.r_166 body.sl.v527 body.sl.r_179 body.sl.r_45 body.sl.r_198 body.sl.r_87 body.sl.r_75 body.sl.r_213 body.sl.v1039 body.sl.r_217 body.sl.r_153 body.sl.r_44
      have hq0 : k0_pay358 (View.readAt (Elt F) arg3.view (Rect.unit (s := S1x2048x256) ![0, 0, 0] S1x512x128.size inb_S1x2048x256_S1x512x128_0_0_0).toLoadRect X_arg3)
        = qh (arg3.view.read (Elt F) X_arg3) 0 0 := read_qh arg3 X_arg3 _ _ _ _ rfl
      have hq1 : k0_pay359 (View.readAt (Elt F) arg3.view (Rect.unit (s := S1x2048x256) ![0, 0, 128] S1x512x128.size inb_S1x2048x256_S1x512x128_0_0_128).toLoadRect X_arg3)
        = qh (arg3.view.read (Elt F) X_arg3) 0 1 := read_qh arg3 X_arg3 _ _ _ _ rfl
      have ht : Scf.trips k0_t1_loop.lb k0_t1_loop.ub k0_t1_loop.st = 3 := by decide
      simp (disch := decide) only [hq0, hq1, ht, Nat.reduceMul, View.readCov_skip, View.readCov_cons_toLoadRect,
        read_kt arg4 X_arg4 ![0, 6144, 0] _ 0 24 (by decide) rfl,
        read_kt arg4 X_arg4 ![0, 6144, 128] _ 1 24 (by decide) rfl,
        read_kt arg4 X_arg4 ![0, 6400, 0] _ 0 25 (by decide) rfl,
        read_kt arg4 X_arg4 ![0, 6400, 128] _ 1 25 (by decide) rfl,
        read_kt arg4 X_arg4 ![0, 6656, 0] _ 0 26 (by decide) rfl,
        read_kt arg4 X_arg4 ![0, 6656, 128] _ 1 26 (by decide) rfl,
        read_kt arg4 X_arg4 ![0, 6912, 0] _ 0 27 (by decide) rfl,
        read_kt arg4 X_arg4 ![0, 6912, 128] _ 1 27 (by decide) rfl,
        read_kt arg4 X_arg4 ![0, 7168, 0] _ 0 28 (by decide) rfl,
        read_kt arg4 X_arg4 ![0, 7168, 128] _ 1 28 (by decide) rfl,
        read_kt arg4 X_arg4 ![0, 7424, 0] _ 0 29 (by decide) rfl,
        read_kt arg4 X_arg4 ![0, 7424, 128] _ 1 29 (by decide) rfl,
        read_kt arg4 X_arg4 ![0, 7680, 0] _ 0 30 (by decide) rfl,
        read_kt arg4 X_arg4 ![0, 7680, 128] _ 1 30 (by decide) rfl,
        read_kt arg4 X_arg4 ![0, 7936, 0] _ 0 31 (by decide) rfl,
        read_kt arg4 X_arg4 ![0, 7936, 128] _ 1 31 (by decide) rfl,
        read_vt arg5 X_arg5 ![0, 0, 24, 0, 0] _ 0 24 (by decide) rfl,
        read_vt arg5 X_arg5 ![0, 1, 24, 0, 0] _ 1 24 (by decide) rfl,
        read_vt arg5 X_arg5 ![0, 0, 25, 0, 0] _ 0 25 (by decide) rfl,
        read_vt arg5 X_arg5 ![0, 1, 25, 0, 0] _ 1 25 (by decide) rfl,
        read_vt arg5 X_arg5 ![0, 0, 26, 0, 0] _ 0 26 (by decide) rfl,
        read_vt arg5 X_arg5 ![0, 1, 26, 0, 0] _ 1 26 (by decide) rfl,
        read_vt arg5 X_arg5 ![0, 0, 27, 0, 0] _ 0 27 (by decide) rfl,
        read_vt arg5 X_arg5 ![0, 1, 27, 0, 0] _ 1 27 (by decide) rfl,
        read_vt arg5 X_arg5 ![0, 0, 28, 0, 0] _ 0 28 (by decide) rfl,
        read_vt arg5 X_arg5 ![0, 1, 28, 0, 0] _ 1 28 (by decide) rfl,
        read_vt arg5 X_arg5 ![0, 0, 29, 0, 0] _ 0 29 (by decide) rfl,
        read_vt arg5 X_arg5 ![0, 1, 29, 0, 0] _ 1 29 (by decide) rfl,
        read_vt arg5 X_arg5 ![0, 0, 30, 0, 0] _ 0 30 (by decide) rfl,
        read_vt arg5 X_arg5 ![0, 1, 30, 0, 0] _ 1 30 (by decide) rfl,
        read_vt arg5 X_arg5 ![0, 0, 31, 0, 0] _ 0 31 (by decide) rfl,
        read_vt arg5 X_arg5 ![0, 1, 31, 0, 0] _ 1 31 (by decide) rfl]
      rw [gn_start arg4 arg5 X_arg4 X_arg5 (qh (arg3.view.read (Elt F) X_arg3) 0 0) (qh (arg3.view.read (Elt F) X_arg3) 0 1)]
      case h0 =>
        rw [← hq0]
        exact (readAt_skip arg7.view _ _ _ _ (Rect.unit (s := S2x2x256x512) ![0, 0, 0, 0] S1x1x256x512.size inb_S2x2x256x512_S1x1x256x512_0_0_0_0).toLoadRect (by decide)).trans (readAt_hit arg7.view _ _ _ _)
      case h1 =>
        rw [← hq1]
        exact readAt_hit arg7.view _ (Rect.unit (s := S2x2x256x512) ![0, 1, 0, 0] S1x1x256x512.size inb_S2x2x256x512_S1x1x256x512_0_1_0_0) _ _
      case hi => rw [← hq0, ← hq1]; rfl
      simp only [st]
      rfl
    · delta body.sl.r_147 body.sl.r_42 body.sl.r_136 body.sl.r_29 body.sl.r_174 body.sl.r_20 body.sl.v926 body.sl.r_244 body.sl.r_162 body.sl.r_36 body.sl.r_171 body.sl.r_124 body.sl.r_33 body.sl.HW_arg7_4_3 body.sl.r_133 body.sl.v1201 body.sl.r_180 body.sl.v1088 body.sl.r_68 body.sl.r_148 body.sl.v1340 body.sl.r_216 body.sl.r_89 body.sl.r_146 body.sl.r_106 body.sl.r_186 body.sl.HW_arg7_12_1 body.sl.r_91 body.sl.v990 body.sl.HW_arg7_10_2 body.sl.r_240 body.sl.r_257 body.sl.r_242 body.sl.v1453 body.sl.v723 body.sl.r_199 body.sl.r_251 body.sl.r_187 body.sl.r_94 body.sl.r_193 body.sl.r_19 body.sl.r body.sl.r_102 body.sl.r_97 body.sl.r_4 body.sl.r_32 body.sl.r_248 body.sl.r_196 body.sl.r_43 body.sl.r_41 body.sl.v1171 body.sl.r_122 body.sl.r_90 body.sl.HW_arg7_8 body.sl.r_245 body.sl.r_78 body.sl.r_167 body.sl.r_7 body.sl.v1355 body.sl.r_28 body.sl.r_201 body.sl.r_49 body.sl.r_230 body.sl.r_194 body.sl.r_112 body.sl.r_60 body.sl.r_224 body.sl.HW_arg7_8_3 body.sl.r_228 body.sl.r_140 body.sl.r_3 body.sl.r_130 body.sl.r_255 body.sl.r_119 body.sl.r_100 body.sl.v757 body.sl.v373 body.sl.HW_arg7_6_3 body.sl.v309 body.sl.r_142 body.sl.r_225 body.sl.r_184 body.sl.r_235 body.sl.r_181 body.sl.r_30 body.sl.r_188 body.sl.r_227 body.sl.r_114 body.sl.r_104 body.sl.r_6 body.sl.r_172 body.sl.v1073 body.sl.r_56 body.sl.r_151 body.sl.r_51 body.sl.v1536 body.sl.r_215 body.sl.r_12 body.sl.r_46 body.sl.HW_arg7_16 body.sl.r_202 body.sl.r_74 body.sl.r_241 body.sl.r_58 body.sl.r_86 body.sl.v1389 body.sl.r_55 body.sl.r_139 body.sl.r_108 body.sl.cst_605 body.sl.r_190 body.sl.HW_arg7_4 body.sl.v211 body.sl.r_85 body.sl.r_246 body.sl.r_263 body.sl.v674 body.sl.v358 body.sl.v1600 body.sl.r_237 body.sl.r_236 body.sl.r_158 body.sl.HW_arg7_4_2 body.sl.r_222 body.sl.r_70 body.sl.HW_arg7_4_1 body.sl.r_123 body.sl.r_38 body.sl.r_115 body.sl.r_262 body.sl.v245 body.sl.r_64 body.sl.r_107 body.sl.r_77 body.sl.r_165 body.sl.r_26 body.sl.HW_arg7_6 body.sl.v1487 body.sl.r_53 body.sl.r_176 body.sl.r_73 body.sl.r_212 body.sl.r_57 body.sl.v1630 body.sl.r_14 body.sl.HW_arg7_14 body.sl.HW_arg7_12_2 body.sl.r_261 body.sl.r_189 body.sl.r_83 body.sl.r_191 body.sl.r_84 body.sl.r_103 body.sl.v98 body.sl.r_192 body.sl.v512 body.sl.v610 body.sl.r_117 body.sl.r_185 body.sl.r_134 body.sl.HW_arg7_10 body.sl.r_220 body.sl.r_37 body.sl.r_61 body.sl.v1122 body.sl.v196 body.sl.r_79 body.sl.r_221 body.sl.r_132 body.sl.r_160 body.sl.r_50 body.sl.r_5 body.sl.r_163 body.sl.r_1 body.sl.r_177 body.sl.v343 body.sl.r_229 body.sl.r_11 body.sl.r_145 body.sl.r_88 body.sl.v802 body.sl.v941 body.sl.HW_arg7_8_1 body.sl.r_69 body.sl.r_250 body.sl.r_150 body.sl.HW_arg7_14_3 body.sl.HW_arg7_16_1 body.sl.r_2 body.sl.r_254 body.sl.r_208 body.sl.r_152 body.sl.r_101 body.sl.v1216 body.sl.r_141 body.sl.r_238 body.sl.r_144 body.sl.r_125 body.sl.r_156 body.sl.r_98 body.sl.r_206 body.sl.v1186 body.sl.r_92 body.sl.r_203 body.sl.r_157 body.sl.r_21 body.sl.HW_arg7_12 body.sl.r_126 body.sl.r_210 body.sl.v113 body.sl.cst_1111 body.sl.r_25 body.sl.r_258 body.sl.r_214 body.sl.r_218 body.sl.v388 body.sl.v1404 body.sl.r_204 body.sl.r_161 body.sl.r_169 body.sl.v659 body.sl.r_247 body.sl.r_52 body.sl.v162 body.sl.r_99 body.sl.r_232 body.sl.r_211 body.sl.r_67 body.sl.HW_arg7_14_2 body.sl.r_252 body.sl.v1137 body.sl.r_256 body.sl.r_27 body.sl.r_62 body.sl.r_164 body.sl.r_205 body.sl.v625 body.sl.r_23 body.sl.v1615 body.sl.r_16 body.sl.r_47 body.sl.v147 body.sl.r_48 body.sl.r_154 body.sl.r_82 body.sl.r_15 body.sl.r_195 body.sl.r_17 body.sl.r_109 body.sl.r_9 body.sl.HW_arg7_14_1 body.sl.r_239 body.sl.v576 body.sl.r_159 body.sl.v561 body.sl.r_10 body.sl.r_13 body.sl.r_183 body.sl.HW_arg7_10_1 body.sl.r_260 body.sl.r_95 body.sl.r_173 body.sl.v260 body.sl.r_129 body.sl.r_143 body.sl.HW_arg7_8_2 body.sl.HW_arg7_6_2 body.sl.v1502 body.sl.r_131 body.sl.r_34 body.sl.r_219 body.sl.r_249 body.sl.r_182 body.sl.r_59 body.sl.r_259 body.sl.v1024 body.sl.r_24 body.sl.r_54 body.sl.r_120 body.sl.r_113 body.sl.r_178 body.sl.v294 body.sl.r_116 body.sl.r_137 body.sl.v1438 body.sl.r_81 body.sl.r_175 body.sl.r_234 body.sl.r_231 body.sl.r_207 body.sl.r_111 body.sl.r_35 body.sl.r_71 body.sl.r_233 body.sl.r_8 body.sl.r_40 body.sl.HW_arg7_12_3 body.sl.r_197 body.sl.r_66 body.sl.r_128 body.sl.r_226 body.sl.HW_arg7_10_3 body.sl.v1551 body.sl.v1585 body.sl.r_39 body.sl.r_223 body.sl.r_253 body.sl.v787 body.sl.r_243 body.sl.r_63 body.sl.v772 body.sl.r_127 body.sl.HW_arg7_6_1 body.sl.r_118 body.sl.r_72 body.sl.r_168 body.sl.r_149 body.sl.HW_arg7_16_2 body.sl.v975 body.sl.r_96 body.sl.r_135 body.sl.r_138 body.sl.r_200 body.sl.r_93 body.sl.r_76 body.sl.r_22 body.sl.r_80 body.sl.v708 body.sl.r_121 body.sl.r_65 body.sl.r_18 body.sl.r_209 body.sl.r_155 body.sl.r_170 body.sl.r_31 body.sl.r_110 body.sl.r_105 body.sl.r_166 body.sl.v527 body.sl.r_179 body.sl.r_45 body.sl.r_198 body.sl.r_87 body.sl.r_75 body.sl.r_213 body.sl.v1039 body.sl.r_217 body.sl.r_153 body.sl.r_44
      have hq0 : k0_pay450 (View.readAt (Elt F) arg3.view (Rect.unit (s := S1x2048x256) ![0, 512, 0] S1x512x128.size inb_S1x2048x256_S1x512x128_0_512_0).toLoadRect X_arg3)
        = qh (arg3.view.read (Elt F) X_arg3) 1 0 := read_qh arg3 X_arg3 _ _ _ _ rfl
      have hq1 : k0_pay451 (View.readAt (Elt F) arg3.view (Rect.unit (s := S1x2048x256) ![0, 512, 128] S1x512x128.size inb_S1x2048x256_S1x512x128_0_512_128).toLoadRect X_arg3)
        = qh (arg3.view.read (Elt F) X_arg3) 1 1 := read_qh arg3 X_arg3 _ _ _ _ rfl
      have ht : Scf.trips k0_t2_loop.lb k0_t2_loop.ub k0_t2_loop.st = 3 := by decide
      simp (disch := decide) only [hq0, hq1, ht, Nat.reduceMul, View.readCov_skip, View.readCov_cons_toLoadRect,
        read_kt arg4 X_arg4 ![0, 6144, 0] _ 0 24 (by decide) rfl,
        read_kt arg4 X_arg4 ![0, 6144, 128] _ 1 24 (by decide) rfl,
        read_kt arg4 X_arg4 ![0, 6400, 0] _ 0 25 (by decide) rfl,
        read_kt arg4 X_arg4 ![0, 6400, 128] _ 1 25 (by decide) rfl,
        read_kt arg4 X_arg4 ![0, 6656, 0] _ 0 26 (by decide) rfl,
        read_kt arg4 X_arg4 ![0, 6656, 128] _ 1 26 (by decide) rfl,
        read_kt arg4 X_arg4 ![0, 6912, 0] _ 0 27 (by decide) rfl,
        read_kt arg4 X_arg4 ![0, 6912, 128] _ 1 27 (by decide) rfl,
        read_kt arg4 X_arg4 ![0, 7168, 0] _ 0 28 (by decide) rfl,
        read_kt arg4 X_arg4 ![0, 7168, 128] _ 1 28 (by decide) rfl,
        read_kt arg4 X_arg4 ![0, 7424, 0] _ 0 29 (by decide) rfl,
        read_kt arg4 X_arg4 ![0, 7424, 128] _ 1 29 (by decide) rfl,
        read_kt arg4 X_arg4 ![0, 7680, 0] _ 0 30 (by decide) rfl,
        read_kt arg4 X_arg4 ![0, 7680, 128] _ 1 30 (by decide) rfl,
        read_kt arg4 X_arg4 ![0, 7936, 0] _ 0 31 (by decide) rfl,
        read_kt arg4 X_arg4 ![0, 7936, 128] _ 1 31 (by decide) rfl,
        read_vt arg5 X_arg5 ![0, 0, 24, 0, 0] _ 0 24 (by decide) rfl,
        read_vt arg5 X_arg5 ![0, 1, 24, 0, 0] _ 1 24 (by decide) rfl,
        read_vt arg5 X_arg5 ![0, 0, 25, 0, 0] _ 0 25 (by decide) rfl,
        read_vt arg5 X_arg5 ![0, 1, 25, 0, 0] _ 1 25 (by decide) rfl,
        read_vt arg5 X_arg5 ![0, 0, 26, 0, 0] _ 0 26 (by decide) rfl,
        read_vt arg5 X_arg5 ![0, 1, 26, 0, 0] _ 1 26 (by decide) rfl,
        read_vt arg5 X_arg5 ![0, 0, 27, 0, 0] _ 0 27 (by decide) rfl,
        read_vt arg5 X_arg5 ![0, 1, 27, 0, 0] _ 1 27 (by decide) rfl,
        read_vt arg5 X_arg5 ![0, 0, 28, 0, 0] _ 0 28 (by decide) rfl,
        read_vt arg5 X_arg5 ![0, 1, 28, 0, 0] _ 1 28 (by decide) rfl,
        read_vt arg5 X_arg5 ![0, 0, 29, 0, 0] _ 0 29 (by decide) rfl,
        read_vt arg5 X_arg5 ![0, 1, 29, 0, 0] _ 1 29 (by decide) rfl,
        read_vt arg5 X_arg5 ![0, 0, 30, 0, 0] _ 0 30 (by decide) rfl,
        read_vt arg5 X_arg5 ![0, 1, 30, 0, 0] _ 1 30 (by decide) rfl,
        read_vt arg5 X_arg5 ![0, 0, 31, 0, 0] _ 0 31 (by decide) rfl,
        read_vt arg5 X_arg5 ![0, 1, 31, 0, 0] _ 1 31 (by decide) rfl]
      rw [gn_start arg4 arg5 X_arg4 X_arg5 (qh (arg3.view.read (Elt F) X_arg3) 1 0) (qh (arg3.view.read (Elt F) X_arg3) 1 1)]
      case h0 =>
        rw [← hq0]
        exact (readAt_skip arg7.view _ _ _ _ (Rect.unit (s := S2x2x256x512) ![0, 0, 0, 0] S1x1x256x512.size inb_S2x2x256x512_S1x1x256x512_0_0_0_0).toLoadRect (by decide)).trans (readAt_hit arg7.view _ _ _ _)
      case h1 =>
        rw [← hq1]
        exact readAt_hit arg7.view _ (Rect.unit (s := S2x2x256x512) ![0, 1, 0, 0] S1x1x256x512.size inb_S2x2x256x512_S1x1x256x512_0_1_0_0) _ _
      case hi => rw [← hq0, ← hq1]; rfl
      simp only [st]
      rfl
    · delta body.sl.r_147 body.sl.r_42 body.sl.r_136 body.sl.r_29 body.sl.r_174 body.sl.r_20 body.sl.v926 body.sl.r_244 body.sl.r_162 body.sl.r_36 body.sl.r_171 body.sl.r_124 body.sl.r_33 body.sl.HW_arg7_4_3 body.sl.r_133 body.sl.v1201 body.sl.r_180 body.sl.v1088 body.sl.r_68 body.sl.r_148 body.sl.v1340 body.sl.r_216 body.sl.r_89 body.sl.r_146 body.sl.r_106 body.sl.r_186 body.sl.HW_arg7_12_1 body.sl.r_91 body.sl.v990 body.sl.HW_arg7_10_2 body.sl.r_240 body.sl.r_257 body.sl.r_242 body.sl.v1453 body.sl.v723 body.sl.r_199 body.sl.r_251 body.sl.r_187 body.sl.r_94 body.sl.r_193 body.sl.r_19 body.sl.r body.sl.r_102 body.sl.r_97 body.sl.r_4 body.sl.r_32 body.sl.r_248 body.sl.r_196 body.sl.r_43 body.sl.r_41 body.sl.v1171 body.sl.r_122 body.sl.r_90 body.sl.HW_arg7_8 body.sl.r_245 body.sl.r_78 body.sl.r_167 body.sl.r_7 body.sl.v1355 body.sl.r_28 body.sl.r_201 body.sl.r_49 body.sl.r_230 body.sl.r_194 body.sl.r_112 body.sl.r_60 body.sl.r_224 body.sl.HW_arg7_8_3 body.sl.r_228 body.sl.r_140 body.sl.r_3 body.sl.r_130 body.sl.r_255 body.sl.r_119 body.sl.r_100 body.sl.v757 body.sl.v373 body.sl.HW_arg7_6_3 body.sl.v309 body.sl.r_142 body.sl.r_225 body.sl.r_184 body.sl.r_235 body.sl.r_181 body.sl.r_30 body.sl.r_188 body.sl.r_227 body.sl.r_114 body.sl.r_104 body.sl.r_6 body.sl.r_172 body.sl.v1073 body.sl.r_56 body.sl.r_151 body.sl.r_51 body.sl.v1536 body.sl.r_215 body.sl.r_12 body.sl.r_46 body.sl.HW_arg7_16 body.sl.r_202 body.sl.r_74 body.sl.r_241 body.sl.r_58 body.sl.r_86 body.sl.v1389 body.sl.r_55 body.sl.r_139 body.sl.r_108 body.sl.cst_605 body.sl.r_190 body.sl.HW_arg7_4 body.sl.v211 body.sl.r_85 body.sl.r_246 body.sl.r_263 body.sl.v674 body.sl.v358 body.sl.v1600 body.sl.r_237 body.sl.r_236 body.sl.r_158 body.sl.HW_arg7_4_2 body.sl.r_222 body.sl.r_70 body.sl.HW_arg7_4_1 body.sl.r_123 body.sl.r_38 body.sl.r_115 body.sl.r_262 body.sl.v245 body.sl.r_64 body.sl.r_107 body.sl.r_77 body.sl.r_165 body.sl.r_26 body.sl.HW_arg7_6 body.sl.v1487 body.sl.r_53 body.sl.r_176 body.sl.r_73 body.sl.r_212 body.sl.r_57 body.sl.v1630 body.sl.r_14 body.sl.HW_arg7_14 body.sl.HW_arg7_12_2 body.sl.r_261 body.sl.r_189 body.sl.r_83 body.sl.r_191 body.sl.r_84 body.sl.r_103 body.sl.v98 body.sl.r_192 body.sl.v512 body.sl.v610 body.sl.r_117 body.sl.r_185 body.sl.r_134 body.sl.HW_arg7_10 body.sl.r_220 body.sl.r_37 body.sl.r_61 body.sl.v1122 body.sl.v196 body.sl.r_79 body.sl.r_221 body.sl.r_132 body.sl.r_160 body.sl.r_50 body.sl.r_5 body.sl.r_163 body.sl.r_1 body.sl.r_177 body.sl.v343 body.sl.r_229 body.sl.r_11 body.sl.r_145 body.sl.r_88 body.sl.v802 body.sl.v941 body.sl.HW_arg7_8_1 body.sl.r_69 body.sl.r_250 body.sl.r_150 body.sl.HW_arg7_14_3 body.sl.HW_arg7_16_1 body.sl.r_2 body.sl.r_254 body.sl.r_208 body.sl.r_152 body.sl.r_101 body.sl.v1216 body.sl.r_141 body.sl.r_238 body.sl.r_144 body.sl.r_125 body.sl.r_156 body.sl.r_98 body.sl.r_206 body.sl.v1186 body.sl.r_92 body.sl.r_203 body.sl.r_157 body.sl.r_21 body.sl.HW_arg7_12 body.sl.r_126 body.sl.r_210 body.sl.v113 body.sl.cst_1111 body.sl.r_25 body.sl.r_258 body.sl.r_214 body.sl.r_218 body.sl.v388 body.sl.v1404 body.sl.r_204 body.sl.r_161 body.sl.r_169 body.sl.v659 body.sl.r_247 body.sl.r_52 body.sl.v162 body.sl.r_99 body.sl.r_232 body.sl.r_211 body.sl.r_67 body.sl.HW_arg7_14_2 body.sl.r_252 body.sl.v1137 body.sl.r_256 body.sl.r_27 body.sl.r_62 body.sl.r_164 body.sl.r_205 body.sl.v625 body.sl.r_23 body.sl.v1615 body.sl.r_16 body.sl.r_47 body.sl.v147 body.sl.r_48 body.sl.r_154 body.sl.r_82 body.sl.r_15 body.sl.r_195 body.sl.r_17 body.sl.r_109 body.sl.r_9 body.sl.HW_arg7_14_1 body.sl.r_239 body.sl.v576 body.sl.r_159 body.sl.v561 body.sl.r_10 body.sl.r_13 body.sl.r_183 body.sl.HW_arg7_10_1 body.sl.r_260 body.sl.r_95 body.sl.r_173 body.sl.v260 body.sl.r_129 body.sl.r_143 body.sl.HW_arg7_8_2 body.sl.HW_arg7_6_2 body.sl.v1502 body.sl.r_131 body.sl.r_34 body.sl.r_219 body.sl.r_249 body.sl.r_182 body.sl.r_59 body.sl.r_259 body.sl.v1024 body.sl.r_24 body.sl.r_54 body.sl.r_120 body.sl.r_113 body.sl.r_178 body.sl.v294 body.sl.r_116 body.sl.r_137 body.sl.v1438 body.sl.r_81 body.sl.r_175 body.sl.r_234 body.sl.r_231 body.sl.r_207 body.sl.r_111 body.sl.r_35 body.sl.r_71 body.sl.r_233 body.sl.r_8 body.sl.r_40 body.sl.HW_arg7_12_3 body.sl.r_197 body.sl.r_66 body.sl.r_128 body.sl.r_226 body.sl.HW_arg7_10_3 body.sl.v1551 body.sl.v1585 body.sl.r_39 body.sl.r_223 body.sl.r_253 body.sl.v787 body.sl.r_243 body.sl.r_63 body.sl.v772 body.sl.r_127 body.sl.HW_arg7_6_1 body.sl.r_118 body.sl.r_72 body.sl.r_168 body.sl.r_149 body.sl.HW_arg7_16_2 body.sl.v975 body.sl.r_96 body.sl.r_135 body.sl.r_138 body.sl.r_200 body.sl.r_93 body.sl.r_76 body.sl.r_22 body.sl.r_80 body.sl.v708 body.sl.r_121 body.sl.r_65 body.sl.r_18 body.sl.r_209 body.sl.r_155 body.sl.r_170 body.sl.r_31 body.sl.r_110 body.sl.r_105 body.sl.r_166 body.sl.v527 body.sl.r_179 body.sl.r_45 body.sl.r_198 body.sl.r_87 body.sl.r_75 body.sl.r_213 body.sl.v1039 body.sl.r_217 body.sl.r_153 body.sl.r_44
      have hq0 : k0_pay547 (View.readAt (Elt F) arg3.view (Rect.unit (s := S1x2048x256) ![0, 1024, 0] S1x512x128.size inb_S1x2048x256_S1x512x128_0_1024_0).toLoadRect X_arg3)
        = qh (arg3.view.read (Elt F) X_arg3) 2 0 := read_qh arg3 X_arg3 _ _ _ _ rfl
      have hq1 : k0_pay548 (View.readAt (Elt F) arg3.view (Rect.unit (s := S1x2048x256) ![0, 1024, 128] S1x512x128.size inb_S1x2048x256_S1x512x128_0_1024_128).toLoadRect X_arg3)
        = qh (arg3.view.read (Elt F) X_arg3) 2 1 := read_qh arg3 X_arg3 _ _ _ _ rfl
      have ht : Scf.trips k0_t3_loop.lb k0_t3_loop.ub k0_t3_loop.st = 3 := by decide
      simp (disch := decide) only [hq0, hq1, ht, Nat.reduceMul, View.readCov_skip, View.readCov_cons_toLoadRect,
        read_kt arg4 X_arg4 ![0, 6144, 0] _ 0 24 (by decide) rfl,
        read_kt arg4 X_arg4 ![0, 6144, 128] _ 1 24 (by decide) rfl,
        read_kt arg4 X_arg4 ![0, 6400, 0] _ 0 25 (by decide) rfl,
        read_kt arg4 X_arg4 ![0, 6400, 128] _ 1 25 (by decide) rfl,
        read_kt arg4 X_arg4 ![0, 6656, 0] _ 0 26 (by decide) rfl,
        read_kt arg4 X_arg4 ![0, 6656, 128] _ 1 26 (by decide) rfl,
        read_kt arg4 X_arg4 ![0, 6912, 0] _ 0 27 (by decide) rfl,
        read_kt arg4 X_arg4 ![0, 6912, 128] _ 1 27 (by decide) rfl,
        read_kt arg4 X_arg4 ![0, 7168, 0] _ 0 28 (by decide) rfl,
        read_kt arg4 X_arg4 ![0, 7168, 128] _ 1 28 (by decide) rfl,
        read_kt arg4 X_arg4 ![0, 7424, 0] _ 0 29 (by decide) rfl,
        read_kt arg4 X_arg4 ![0, 7424, 128] _ 1 29 (by decide) rfl,
        read_kt arg4 X_arg4 ![0, 7680, 0] _ 0 30 (by decide) rfl,
        read_kt arg4 X_arg4 ![0, 7680, 128] _ 1 30 (by decide) rfl,
        read_kt arg4 X_arg4 ![0, 7936, 0] _ 0 31 (by decide) rfl,
        read_kt arg4 X_arg4 ![0, 7936, 128] _ 1 31 (by decide) rfl,
        read_vt arg5 X_arg5 ![0, 0, 24, 0, 0] _ 0 24 (by decide) rfl,
        read_vt arg5 X_arg5 ![0, 1, 24, 0, 0] _ 1 24 (by decide) rfl,
        read_vt arg5 X_arg5 ![0, 0, 25, 0, 0] _ 0 25 (by decide) rfl,
        read_vt arg5 X_arg5 ![0, 1, 25, 0, 0] _ 1 25 (by decide) rfl,
        read_vt arg5 X_arg5 ![0, 0, 26, 0, 0] _ 0 26 (by decide) rfl,
        read_vt arg5 X_arg5 ![0, 1, 26, 0, 0] _ 1 26 (by decide) rfl,
        read_vt arg5 X_arg5 ![0, 0, 27, 0, 0] _ 0 27 (by decide) rfl,
        read_vt arg5 X_arg5 ![0, 1, 27, 0, 0] _ 1 27 (by decide) rfl,
        read_vt arg5 X_arg5 ![0, 0, 28, 0, 0] _ 0 28 (by decide) rfl,
        read_vt arg5 X_arg5 ![0, 1, 28, 0, 0] _ 1 28 (by decide) rfl,
        read_vt arg5 X_arg5 ![0, 0, 29, 0, 0] _ 0 29 (by decide) rfl,
        read_vt arg5 X_arg5 ![0, 1, 29, 0, 0] _ 1 29 (by decide) rfl,
        read_vt arg5 X_arg5 ![0, 0, 30, 0, 0] _ 0 30 (by decide) rfl,
        read_vt arg5 X_arg5 ![0, 1, 30, 0, 0] _ 1 30 (by decide) rfl,
        read_vt arg5 X_arg5 ![0, 0, 31, 0, 0] _ 0 31 (by decide) rfl,
        read_vt arg5 X_arg5 ![0, 1, 31, 0, 0] _ 1 31 (by decide) rfl]
      rw [gn_start arg4 arg5 X_arg4 X_arg5 (qh (arg3.view.read (Elt F) X_arg3) 2 0) (qh (arg3.view.read (Elt F) X_arg3) 2 1)]
      case h0 =>
        rw [← hq0]
        exact (readAt_skip arg7.view _ _ _ _ (Rect.unit (s := S2x2x256x512) ![0, 0, 0, 0] S1x1x256x512.size inb_S2x2x256x512_S1x1x256x512_0_0_0_0).toLoadRect (by decide)).trans (readAt_hit arg7.view _ _ _ _)
      case h1 =>
        rw [← hq1]
        exact readAt_hit arg7.view _ (Rect.unit (s := S2x2x256x512) ![0, 1, 0, 0] S1x1x256x512.size inb_S2x2x256x512_S1x1x256x512_0_1_0_0) _ _
      case hi => rw [← hq0, ← hq1]; rfl
      simp only [st]
      rfl
    · delta body.sl.r_147 body.sl.r_42 body.sl.r_136 body.sl.r_29 body.sl.r_174 body.sl.r_20 body.sl.v926 body.sl.r_244 body.sl.r_162 body.sl.r_36 body.sl.r_171 body.sl.r_124 body.sl.r_33 body.sl.HW_arg7_4_3 body.sl.r_133 body.sl.v1201 body.sl.r_180 body.sl.v1088 body.sl.r_68 body.sl.r_148 body.sl.v1340 body.sl.r_216 body.sl.r_89 body.sl.r_146 body.sl.r_106 body.sl.r_186 body.sl.HW_arg7_12_1 body.sl.r_91 body.sl.v990 body.sl.HW_arg7_10_2 body.sl.r_240 body.sl.r_257 body.sl.r_242 body.sl.v1453 body.sl.v723 body.sl.r_199 body.sl.r_251 body.sl.r_187 body.sl.r_94 body.sl.r_193 body.sl.r_19 body.sl.r body.sl.r_102 body.sl.r_97 body.sl.r_4 body.sl.r_32 body.sl.r_248 body.sl.r_196 body.sl.r_43 body.sl.r_41 body.sl.v1171 body.sl.r_122 body.sl.r_90 body.sl.HW_arg7_8 body.sl.r_245 body.sl.r_78 body.sl.r_167 body.sl.r_7 body.sl.v1355 body.sl.r_28 body.sl.r_201 body.sl.r_49 body.sl.r_230 body.sl.r_194 body.sl.r_112 body.sl.r_60 body.sl.r_224 body.sl.HW_arg7_8_3 body.sl.r_228 body.sl.r_140 body.sl.r_3 body.sl.r_130 body.sl.r_255 body.sl.r_119 body.sl.r_100 body.sl.v757 body.sl.v373 body.sl.HW_arg7_6_3 body.sl.v309 body.sl.r_142 body.sl.r_225 body.sl.r_184 body.sl.r_235 body.sl.r_181 body.sl.r_30 body.sl.r_188 body.sl.r_227 body.sl.r_114 body.sl.r_104 body.sl.r_6 body.sl.r_172 body.sl.v1073 body.sl.r_56 body.sl.r_151 body.sl.r_51 body.sl.v1536 body.sl.r_215 body.sl.r_12 body.sl.r_46 body.sl.HW_arg7_16 body.sl.r_202 body.sl.r_74 body.sl.r_241 body.sl.r_58 body.sl.r_86 body.sl.v1389 body.sl.r_55 body.sl.r_139 body.sl.r_108 body.sl.cst_605 body.sl.r_190 body.sl.HW_arg7_4 body.sl.v211 body.sl.r_85 body.sl.r_246 body.sl.r_263 body.sl.v674 body.sl.v358 body.sl.v1600 body.sl.r_237 body.sl.r_236 body.sl.r_158 body.sl.HW_arg7_4_2 body.sl.r_222 body.sl.r_70 body.sl.HW_arg7_4_1 body.sl.r_123 body.sl.r_38 body.sl.r_115 body.sl.r_262 body.sl.v245 body.sl.r_64 body.sl.r_107 body.sl.r_77 body.sl.r_165 body.sl.r_26 body.sl.HW_arg7_6 body.sl.v1487 body.sl.r_53 body.sl.r_176 body.sl.r_73 body.sl.r_212 body.sl.r_57 body.sl.v1630 body.sl.r_14 body.sl.HW_arg7_14 body.sl.HW_arg7_12_2 body.sl.r_261 body.sl.r_189 body.sl.r_83 body.sl.r_191 body.sl.r_84 body.sl.r_103 body.sl.v98 body.sl.r_192 body.sl.v512 body.sl.v610 body.sl.r_117 body.sl.r_185 body.sl.r_134 body.sl.HW_arg7_10 body.sl.r_220 body.sl.r_37 body.sl.r_61 body.sl.v1122 body.sl.v196 body.sl.r_79 body.sl.r_221 body.sl.r_132 body.sl.r_160 body.sl.r_50 body.sl.r_5 body.sl.r_163 body.sl.r_1 body.sl.r_177 body.sl.v343 body.sl.r_229 body.sl.r_11 body.sl.r_145 body.sl.r_88 body.sl.v802 body.sl.v941 body.sl.HW_arg7_8_1 body.sl.r_69 body.sl.r_250 body.sl.r_150 body.sl.HW_arg7_14_3 body.sl.HW_arg7_16_1 body.sl.r_2 body.sl.r_254 body.sl.r_208 body.sl.r_152 body.sl.r_101 body.sl.v1216 body.sl.r_141 body.sl.r_238 body.sl.r_144 body.sl.r_125 body.sl.r_156 body.sl.r_98 body.sl.r_206 body.sl.v1186 body.sl.r_92 body.sl.r_203 body.sl.r_157 body.sl.r_21 body.sl.HW_arg7_12 body.sl.r_126 body.sl.r_210 body.sl.v113 body.sl.cst_1111 body.sl.r_25 body.sl.r_258 body.sl.r_214 body.sl.r_218 body.sl.v388 body.sl.v1404 body.sl.r_204 body.sl.r_161 body.sl.r_169 body.sl.v659 body.sl.r_247 body.sl.r_52 body.sl.v162 body.sl.r_99 body.sl.r_232 body.sl.r_211 body.sl.r_67 body.sl.HW_arg7_14_2 body.sl.r_252 body.sl.v1137 body.sl.r_256 body.sl.r_27 body.sl.r_62 body.sl.r_164 body.sl.r_205 body.sl.v625 body.sl.r_23 body.sl.v1615 body.sl.r_16 body.sl.r_47 body.sl.v147 body.sl.r_48 body.sl.r_154 body.sl.r_82 body.sl.r_15 body.sl.r_195 body.sl.r_17 body.sl.r_109 body.sl.r_9 body.sl.HW_arg7_14_1 body.sl.r_239 body.sl.v576 body.sl.r_159 body.sl.v561 body.sl.r_10 body.sl.r_13 body.sl.r_183 body.sl.HW_arg7_10_1 body.sl.r_260 body.sl.r_95 body.sl.r_173 body.sl.v260 body.sl.r_129 body.sl.r_143 body.sl.HW_arg7_8_2 body.sl.HW_arg7_6_2 body.sl.v1502 body.sl.r_131 body.sl.r_34 body.sl.r_219 body.sl.r_249 body.sl.r_182 body.sl.r_59 body.sl.r_259 body.sl.v1024 body.sl.r_24 body.sl.r_54 body.sl.r_120 body.sl.r_113 body.sl.r_178 body.sl.v294 body.sl.r_116 body.sl.r_137 body.sl.v1438 body.sl.r_81 body.sl.r_175 body.sl.r_234 body.sl.r_231 body.sl.r_207 body.sl.r_111 body.sl.r_35 body.sl.r_71 body.sl.r_233 body.sl.r_8 body.sl.r_40 body.sl.HW_arg7_12_3 body.sl.r_197 body.sl.r_66 body.sl.r_128 body.sl.r_226 body.sl.HW_arg7_10_3 body.sl.v1551 body.sl.v1585 body.sl.r_39 body.sl.r_223 body.sl.r_253 body.sl.v787 body.sl.r_243 body.sl.r_63 body.sl.v772 body.sl.r_127 body.sl.HW_arg7_6_1 body.sl.r_118 body.sl.r_72 body.sl.r_168 body.sl.r_149 body.sl.HW_arg7_16_2 body.sl.v975 body.sl.r_96 body.sl.r_135 body.sl.r_138 body.sl.r_200 body.sl.r_93 body.sl.r_76 body.sl.r_22 body.sl.r_80 body.sl.v708 body.sl.r_121 body.sl.r_65 body.sl.r_18 body.sl.r_209 body.sl.r_155 body.sl.r_170 body.sl.r_31 body.sl.r_110 body.sl.r_105 body.sl.r_166 body.sl.v527 body.sl.r_179 body.sl.r_45 body.sl.r_198 body.sl.r_87 body.sl.r_75 body.sl.r_213 body.sl.v1039 body.sl.r_217 body.sl.r_153 body.sl.r_44
      have hq0 : k0_pay646 (View.readAt (Elt F) arg3.view (Rect.unit (s := S1x2048x256) ![0, 1536, 0] S1x512x128.size inb_S1x2048x256_S1x512x128_0_1536_0).toLoadRect X_arg3)
        = qh (arg3.view.read (Elt F) X_arg3) 3 0 := read_qh arg3 X_arg3 _ _ _ _ rfl
      have hq1 : k0_pay647 (View.readAt (Elt F) arg3.view (Rect.unit (s := S1x2048x256) ![0, 1536, 128] S1x512x128.size inb_S1x2048x256_S1x512x128_0_1536_128).toLoadRect X_arg3)
        = qh (arg3.view.read (Elt F) X_arg3) 3 1 := read_qh arg3 X_arg3 _ _ _ _ rfl
      have ht : Scf.trips k0_t4_loop.lb k0_t4_loop.ub k0_t4_loop.st = 3 := by decide
      simp (disch := decide) only [hq0, hq1, ht, Nat.reduceMul, View.readCov_skip, View.readCov_cons_toLoadRect,
        read_kt arg4 X_arg4 ![0, 6144, 0] _ 0 24 (by decide) rfl,
        read_kt arg4 X_arg4 ![0, 6144, 128] _ 1 24 (by decide) rfl,
        read_kt arg4 X_arg4 ![0, 6400, 0] _ 0 25 (by decide) rfl,
        read_kt arg4 X_arg4 ![0, 6400, 128] _ 1 25 (by decide) rfl,
        read_kt arg4 X_arg4 ![0, 6656, 0] _ 0 26 (by decide) rfl,
        read_kt arg4 X_arg4 ![0, 6656, 128] _ 1 26 (by decide) rfl,
        read_kt arg4 X_arg4 ![0, 6912, 0] _ 0 27 (by decide) rfl,
        read_kt arg4 X_arg4 ![0, 6912, 128] _ 1 27 (by decide) rfl,
        read_kt arg4 X_arg4 ![0, 7168, 0] _ 0 28 (by decide) rfl,
        read_kt arg4 X_arg4 ![0, 7168, 128] _ 1 28 (by decide) rfl,
        read_kt arg4 X_arg4 ![0, 7424, 0] _ 0 29 (by decide) rfl,
        read_kt arg4 X_arg4 ![0, 7424, 128] _ 1 29 (by decide) rfl,
        read_kt arg4 X_arg4 ![0, 7680, 0] _ 0 30 (by decide) rfl,
        read_kt arg4 X_arg4 ![0, 7680, 128] _ 1 30 (by decide) rfl,
        read_kt arg4 X_arg4 ![0, 7936, 0] _ 0 31 (by decide) rfl,
        read_kt arg4 X_arg4 ![0, 7936, 128] _ 1 31 (by decide) rfl,
        read_vt arg5 X_arg5 ![0, 0, 24, 0, 0] _ 0 24 (by decide) rfl,
        read_vt arg5 X_arg5 ![0, 1, 24, 0, 0] _ 1 24 (by decide) rfl,
        read_vt arg5 X_arg5 ![0, 0, 25, 0, 0] _ 0 25 (by decide) rfl,
        read_vt arg5 X_arg5 ![0, 1, 25, 0, 0] _ 1 25 (by decide) rfl,
        read_vt arg5 X_arg5 ![0, 0, 26, 0, 0] _ 0 26 (by decide) rfl,
        read_vt arg5 X_arg5 ![0, 1, 26, 0, 0] _ 1 26 (by decide) rfl,
        read_vt arg5 X_arg5 ![0, 0, 27, 0, 0] _ 0 27 (by decide) rfl,
        read_vt arg5 X_arg5 ![0, 1, 27, 0, 0] _ 1 27 (by decide) rfl,
        read_vt arg5 X_arg5 ![0, 0, 28, 0, 0] _ 0 28 (by decide) rfl,
        read_vt arg5 X_arg5 ![0, 1, 28, 0, 0] _ 1 28 (by decide) rfl,
        read_vt arg5 X_arg5 ![0, 0, 29, 0, 0] _ 0 29 (by decide) rfl,
        read_vt arg5 X_arg5 ![0, 1, 29, 0, 0] _ 1 29 (by decide) rfl,
        read_vt arg5 X_arg5 ![0, 0, 30, 0, 0] _ 0 30 (by decide) rfl,
        read_vt arg5 X_arg5 ![0, 1, 30, 0, 0] _ 1 30 (by decide) rfl,
        read_vt arg5 X_arg5 ![0, 0, 31, 0, 0] _ 0 31 (by decide) rfl,
        read_vt arg5 X_arg5 ![0, 1, 31, 0, 0] _ 1 31 (by decide) rfl]
      rw [gn_start arg4 arg5 X_arg4 X_arg5 (qh (arg3.view.read (Elt F) X_arg3) 3 0) (qh (arg3.view.read (Elt F) X_arg3) 3 1)]
      case h0 =>
        rw [← hq0]
        exact (readAt_skip arg7.view _ _ _ _ (Rect.unit (s := S2x2x256x512) ![0, 0, 0, 0] S1x1x256x512.size inb_S2x2x256x512_S1x1x256x512_0_0_0_0).toLoadRect (by decide)).trans (readAt_hit arg7.view _ _ _ _)
      case h1 =>
        rw [← hq1]
        exact readAt_hit arg7.view _ (Rect.unit (s := S2x2x256x512) ![0, 1, 0, 0] S1x1x256x512.size inb_S2x2x256x512_S1x1x256x512_0_1_0_0) _ _
      case hi => rw [← hq0, ← hq1]; rfl
      simp only [st]
      rfl
  · iexists _
    iexact HW_arg7

end Cert.KernelIdeal.Att

end

end
-- ==== Proof.Read.lean ====
module

public import proofs.«01_k».proof.Proof.Run
public import proofs.«01_k».proof.Proof.Online
public import Idealize.ShloMosaic.Lib.Pointwise

/-! What the kernel's body stores, read at an index. -/

@[expose] public section

set_option maxRecDepth 16384
noncomputable section
namespace Cert.KernelIdeal.Att
open Idealize.ShloMosaic
open Cert.KernelIdeal Cert.KernelIdeal.Gen

theorem sc_at (q : FVec Ideal S512x128 .bf16) (k : FVec Ideal S1x256x128 .bf16) (κ : Fin 256) (j : Fin 512) :
    sc q k (ix2 κ j) = ∑ e : Fin 128, k (ix3 0 κ e) * q (ix2 j e) := by
  pointwise [sc]
theorem bf_at (q : FVec Ideal S512x128 .bf16) (k : FVec Ideal S1x256x128 .bf16) (κ : Fin 256) (j : Fin 512) :
    bf q k (ix4 0 0 κ j) = ∑ e : Fin 128, k (ix3 0 κ e) * q (ix2 j e) := by
  pointwise [bf, sc]
theorem stp_at (m : FVec Ideal S1x512 .f32) (a : FVec Ideal S80x512 .f32) (m' : FVec Ideal S1x512 .f32)
    (b : FVec Ideal S1x1x256x512 .f32) (v : FVec Ideal S1x1x1x80x256 .bf16) (r : Fin 80) (j : Fin 512) :
    stp m a m' b v (ix2 r j) = a (ix2 r j) * Ideal.exp2 (m (ix2 0 j) - m' (ix2 0 j))
      + ∑ κ : Fin 256, v (ix5 0 0 0 r κ) * Ideal.exp2 (b (ix4 0 0 κ j) - m' (ix2 0 j)) := by
  pointwise [stp]
  rfl
theorem qcast_at (W : FVec Ideal S1x512x128 .bf16) (j : Fin 512) (e : Fin 128) :
    shapeCast S512x128 W shapeCasts_S1x512x128_S512x128 (ix2 j e) = W (ix3 0 j e) := by
  pointwise
theorem qh_at (Q : FVec Ideal S1x2048x256 .bf16) (s : Fin 4) (h : Fin 2) (j : Fin 512) (e : Fin 128) :
    qh Q s h (ix2 j e) = Q (ix3 0 ⟨512 * s.val + j.val, by omega⟩ ⟨128 * h.val + e.val, by omega⟩) := by
  unfold qh
  rw [qcast_at]
  unfold VecWindow.window
  refine congrArg Q (funext fun a => Fin.ext ?_)
  fin_cases a <;> simp [ix3]
theorem kt_at (A : FVec Ideal S1x8192x256 .bf16) (h : Fin 2) (n : ℕ) (κ : Fin 256) (e : Fin 128) :
    kt A h n (ix3 0 κ e) = A (ix3 0 ⟨256 * (n % 32) + κ.val, by omega⟩ ⟨128 * h.val + e.val, by omega⟩) := by
  unfold kt VecWindow.window
  refine congrArg A (funext fun a => Fin.ext ?_)
  fin_cases a <;> simp [ix3]
theorem vt_at (B : FVec Ideal S1x2x32x80x256 .bf16) (h : Fin 2) (n : ℕ) (r : Fin 80) (κ : Fin 256) :
    vt B h n (ix5 0 0 0 r κ) = B (ix5 0 h ⟨n % 32, by omega⟩ r κ) := by
  unfold vt VecWindow.window
  refine congrArg B (funext fun a => Fin.ext ?_)
  fin_cases a <;> simp [ix5]
theorem fin_at0 (a a' : FVec Ideal S80x512 .f32) (j : Fin 512) (d : Fin 64) :
    fin a a' (ix3 0 j ⟨d.val, by omega⟩) = Ideal.div (a (ix2 ⟨d.val, by omega⟩ j)) (a (ix2 64 j)) := by
  pointwise [fin]
theorem fin_at1 (a a' : FVec Ideal S80x512 .f32) (j : Fin 512) (d : Fin 64) :
    fin a a' (ix3 0 j ⟨64 + d.val, by omega⟩) = Ideal.div (a' (ix2 ⟨d.val, by omega⟩ j)) (a' (ix2 64 j)) := by
  pointwise [fin]
end Cert.KernelIdeal.Att

end

end
-- ==== Proof.Core.lean ====
module

public import proofs.«01_k».proof.Proof.Score
public import proofs.«01_k».proof.Proof.Read

/-! A head's two running sums give the reference's result. -/

@[expose] public section

set_option maxRecDepth 16384
noncomputable section
namespace Cert.KernelIdeal.Att
open Idealize.ShloMosaic
open Cert.KernelIdeal Cert.KernelIdeal.Gen

theorem ninf : Ideal.ofBits .f32 0xFF800000#32 = (⊥ : EReal) := by simp [Ideal.ofBits, Ideal.ieee]
theorem tm_at (q : FVec Ideal S512x128 .bf16) (k : FVec Ideal S1x256x128 .bf16) (j : Fin 512) :
    tm q k (ix2 0 j) = Finset.univ.fold (β := EReal) (max (α := EReal)) ⊥ fun κ => sc q k (ix2 κ j) := by
  unfold tm
  generalize sc q k = Y
  pointwise
  rw [ninf]
theorem mx0_at (q : FVec Ideal S512x128 .bf16) (K : ℕ → FVec Ideal S1x256x128 .bf16) (j : Fin 512) : mx q K 0 (ix2 0 j) = (⊥ : EReal) :=
  ninf
theorem ac0_at (q : FVec Ideal S512x128 .bf16) (K : ℕ → FVec Ideal S1x256x128 .bf16) (V : ℕ → FVec Ideal S1x1x1x80x256 .bf16)
    (r : Fin 80) (j : Fin 512) : ac q K V 0 (ix2 r j) = (0 : EReal) := Ideal.ofBits_zero_f32
theorem bf_sc (q : FVec Ideal S512x128 .bf16) (k : FVec Ideal S1x256x128 .bf16) (κ : Fin 256) (j : Fin 512) :
    bf q k (ix4 0 0 κ j) = sc q k (ix2 κ j) := by rw [bf_at, sc_at]

variable (X0 : FVec Ideal S8x8192x8x64 .f32) (X1 : FVec Ideal S8x8192x8x32 .f32) (X2 : FVec Ideal S8x8192x8x64 .f32)
  (X3 : FVec Ideal S8x8192x32 .f32) (X4 : FVec Ideal S8x8192x8x64 .f32)

theorem core (h0 : ∀ i, ∃ r : ℝ, X0 i = (r : EReal)) (h1 : ∀ i, ∃ r : ℝ, X1 i = (r : EReal))
    (h2 : ∀ i, ∃ r : ℝ, X2 i = (r : EReal)) (h3 : ∀ i, ∃ r : ℝ, X3 i = (r : EReal))
    (Q : FVec Ideal S1x2048x256 .bf16) (A : FVec Ideal S1x8192x256 .bf16) (B : FVec Ideal S1x2x32x80x256 .bf16)
    (s : Fin 4) (h : Fin 2) (j : Fin 512) (d : Fin 64) (b : Fin 8) (H : Fin 8) (q : Fin 8192)
    (hQ : ∀ e : Fin 128, Q (ix3 0 ⟨512 * s.val + j.val, by omega⟩ ⟨128 * h.val + e.val, by omega⟩) = pq X0 X1 (ix4 b q H e))
    (hA : ∀ (k : Fin 8192) (e : Fin 128), A (ix3 0 k ⟨128 * h.val + e.val, by omega⟩) = pk X2 X3 (ix4 b k H e))
    (hB : ∀ (n : Fin 32) (r : Fin 80) (κ : Fin 256), B (ix5 0 h n r κ) = pv X4 (ix4 b H r ⟨n.val * 256 + κ.val, by omega⟩)) :
    Ideal.div (ac (qh Q s h) (kt A h) (vt B h) 32 (ix2 ⟨d.val, by omega⟩ j)) (ac (qh Q s h) (kt A h) (vt B h) 32 (ix2 64 j))
      = Cert.ReferenceIdeal.Att.REF X0 X1 X2 X3 X4 (ix3 b q ⟨H.val * 64 + d.val, by omega⟩) := by
  obtain ⟨x, hx⟩ := scores X0 X1 X2 X3 h0 h1 h2 h3 b H q
  have hs : ∀ (n : ℕ) (κ : Fin 256), sc (qh Q s h) (kt A h n) (ix2 κ j) = ((x ⟨n % 32 * 256 + κ.val, by omega⟩ / Real.log 2 : ℝ) : EReal) := fun n κ => by
    rw [sc_at, ← (hx _).2]
    refine Finset.sum_congr rfl fun e _ => ?_
    rw [kt_at, qh_at, hQ, hA]
    congr 3
    exact Fin.ext (by simp only []; omega)
  have hv : ∀ (n : ℕ) (r : Fin 80) (κ : Fin 256), vt B h n (ix5 0 0 0 r κ) = pv X4 (ix4 b H r ⟨n % 32 * 256 + κ.val, by omega⟩) := fun n r κ => by
    rw [vt_at, hB]
  obtain ⟨ν, hν⟩ := Cert.Online.fold_real x
  have hm : Cert.ReferenceIdeal.Att.rmx X0 X1 X2 X3 (ix3 b H q) = (ν : EReal) := by
    rw [Cert.ReferenceIdeal.Att.rmx_at]
    simp only [fun k => (hx k).1]
    rw [hν]
    exact max_eq_right bot_le
  have hr : ∀ k, Cert.ReferenceIdeal.Att.rex X0 X1 X2 X3 (ix4 b H q k) = Ideal.exp ((x k : EReal) - ν) := fun k => by
    rw [Cert.ReferenceIdeal.Att.rex_at, (hx k).1, hm]
  rw [Cert.ReferenceIdeal.Att.REF_at]
  simp only [hr]
  have hM : ∀ n, mx (qh Q s h) (kt A h) (n + 1) (ix2 0 j) = max (α := EReal) (mx (qh Q s h) (kt A h) n (ix2 0 j))
      (Finset.univ.fold max ⊥ fun κ : Fin 256 => ((x ⟨n % 32 * 256 + κ.val, by omega⟩ / Real.log 2 : ℝ) : EReal)) := fun n => by
    show max (α := EReal) (mx (qh Q s h) (kt A h) n (ix2 0 j)) (tm (qh Q s h) (kt A h n) (ix2 0 j)) = _
    rw [tm_at]
    simp only [hs]
  have hac : ∀ (r : Fin 80) (n : ℕ), ac (qh Q s h) (kt A h) (vt B h) (n + 1) (ix2 r j)
      = (show EReal from ac (qh Q s h) (kt A h) (vt B h) n (ix2 r j)) * Ideal.exp2 ((show EReal from mx (qh Q s h) (kt A h) n (ix2 0 j)) - mx (qh Q s h) (kt A h) (n + 1) (ix2 0 j))
        + ∑ κ : Fin 256, pv X4 (ix4 b H r ⟨n % 32 * 256 + κ.val, by omega⟩)
          * Ideal.exp2 (((x ⟨n % 32 * 256 + κ.val, by omega⟩ / Real.log 2 : ℝ) : EReal) - mx (qh Q s h) (kt A h) (n + 1) (ix2 0 j)) := fun r n => by
    show stp _ _ _ _ _ _ = _
    rw [stp_at]
    simp only [hv, bf_sc, hs]
  refine Cert.Online.quotient (fun n κ => x ⟨n % 32 * 256 + κ.val, by omega⟩ / Real.log 2) x (fun k => X4 (ix4 b k H d))
    (fun n κ => pv X4 (ix4 b H ⟨d.val, by omega⟩ ⟨n % 32 * 256 + κ.val, by omega⟩)) (fun n κ => pv X4 (ix4 b H 64 ⟨n % 32 * 256 + κ.val, by omega⟩))
    (fun n => mx (qh Q s h) (kt A h) n (ix2 0 j)) (fun n => ac (qh Q s h) (kt A h) (vt B h) n (ix2 ⟨d.val, by omega⟩ j))
    (fun n => ac (qh Q s h) (kt A h) (vt B h) n (ix2 64 j)) ν (mx0_at _ _ j) hM (ac0_at _ _ _ _ j) (hac ⟨d.val, by omega⟩) (ac0_at _ _ _ _ j) (hac 64)
    (fun n κ => pv_b X4 b H _) (fun t κ => ?_) (fun t κ => ?_)
  · have : t.val % 32 = t.val := Nat.mod_eq_of_lt t.isLt
    simp only [this]
    exact div_mul_cancel₀ _ (Real.log_pos (by norm_num)).ne'
  · have : t.val % 32 = t.val := Nat.mod_eq_of_lt t.isLt
    simp only [this]
    exact pv_a X4 b H d _
end Cert.KernelIdeal.Att

end

end
-- ==== Proof.Data.lean ====
module

public import proofs.«01_k».proof.Proof.Run
public import proofs.«01_k».proof.Proof.Gen.KernelIdeal.Frame

/-! The pipeline's proof data and the call's run. -/

@[expose] public section

set_option maxRecDepth 16384
noncomputable section
namespace Cert.KernelIdeal.Att
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation ΦA)
open Cert.KernelIdeal Cert.KernelIdeal.Gen
variable {F : FTy → Type} [FloatOps F]
local notation "𝕄G" => MT nD τ sig Unit (Elt F) ℕ (UR sig nD τ) ℕ

/-- What the body stores: four blocks of 512 rows. -/
def pcs (Q : FVec F S1x2048x256 .bf16) (A : FVec F S1x8192x256 .bf16) (B : FVec F S1x2x32x80x256 .bf16) :
    List (View.Piece (Elt F) S1x2048x128 .bf16) :=
  [⟨Rect.unit (s := S1x2048x128) ![0, 1536, 0] S1x512x128.size inb_S1x2048x128_S1x512x128_0_1536_0, outp Q A B 3⟩,
    ⟨Rect.unit (s := S1x2048x128) ![0, 1024, 0] S1x512x128.size inb_S1x2048x128_S1x512x128_0_1024_0, outp Q A B 2⟩,
    ⟨Rect.unit (s := S1x2048x128) ![0, 512, 0] S1x512x128.size inb_S1x2048x128_S1x512x128_0_512_0, outp Q A B 1⟩,
    ⟨Rect.unit (s := S1x2048x128) ![0, 0, 0] S1x512x128.size inb_S1x2048x128_S1x512x128_0_0_0, outp Q A B 0⟩]
/-- The result's block. -/
def blkOut (Q : FVec F S1x2048x256 .bf16) (A : FVec F S1x8192x256 .bf16) (B : FVec F S1x2x32x80x256 .bf16) : FVec F S1x2048x128 .bf16 :=
  View.canon (pcs Q A B)

abbrev 𝒱₀ : Variants := Variants.none

theorem body_owns (c : Dev nD) (i : grid0.Coords) (arg3 : Memref sig .tc .vmem S1x2048x256 .bf16) (harg3 : arg3.IsWhole) (arg4 : Memref sig .tc .vmem S1x8192x256 .bf16) (harg4 : arg4.IsWhole) (arg5 : Memref sig .tc .vmem S1x2x32x80x256 .bf16) (harg5 : arg5.IsWhole) (arg6 : Memref sig .tc .vmem S1x2048x128 .bf16) (harg6 : arg6.IsWhole) (arg7 : Memref sig .tc .vmem S2x2x256x512 .f32) (harg7 : arg7.IsWhole)
    (Q : FVec F S1x2048x256 .bf16) (A : FVec F S1x8192x256 .bf16) (B : FVec F S1x2x32x80x256 .bf16) (E : Set ℕ) (K : PUnit → sProp 𝕄G) :
    (iprop(owns (c : Thread nD τ) arg3 fullShare Q ∗ owns (c : Thread nD τ) arg4 fullShare A ∗ owns (c : Thread nD τ) arg5 fullShare B
        ∗ (∃ d, owns (c : Thread nD τ) arg6 fullShare d) ∗ (∃ f, arg7.view.loc (c : Thread nD τ) ↦[arg7.view.set]{fullShare} f)
        ∗ (iprop(owns (c : Thread nD τ) arg3 fullShare Q ∗ owns (c : Thread nD τ) arg4 fullShare A ∗ owns (c : Thread nD τ) arg5 fullShare B
          ∗ owns (c : Thread nD τ) arg6 fullShare (blkOut Q A B) ∗ (∃ f, arg7.view.loc (c : Thread nD τ) ↦[arg7.view.set]{fullShare} f)) -∗ K ⟨⟩)) : sProp 𝕄G)
      ⊢ wp frame (wpE (defs₀ (F := F)) 𝒱₀ (c : Thread nD τ) none) E (cc0_mla_attn (F := F) i arg3 harg3 arg4 harg4 arg5 harg5 arg6 harg6 arg7 harg7) K := by
  unfold owns
  iintro ⟨⟨%f3, %h3, H3⟩, ⟨%f4, %h4, H4⟩, ⟨%f5, %h5, H5⟩, ⟨%d6, %f6, -, H6⟩, ⟨%f7, H7⟩, Hk⟩
  iapply (wp_wand_r Idealize.ShloMosaic.frame (wpE (defs₀ (F := F)) 𝒱₀ (c : Thread nD τ) none) E)
  isplitl [H3 H4 H5 H6 H7]
  · iapply (body 𝒱₀ c none E i arg3 harg3 arg4 harg4 arg5 harg5 arg6 harg6 arg7 harg7 f3 f4 f5 f6 f7)
    isplitl [H3]; · iexact H3
    isplitl [H4]; · iexact H4
    isplitl [H5]; · iexact H5
    isplitl [H6]; · iexact H6
    iexact H7
  iintro %_ ⟨H3, H4, H5, ⟨%f, H6, %h6⟩, ⟨%g, H7⟩⟩
  iapply Hk
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; swap; · iexact H6
    ipureintro
    rw [h6, h3, h4, h5]
    exact View.read_writes_eq_canon _ _ (pcs Q A B) (View.cover_of_tiled (pcs Q A B) ![1, 512, 128] rfl)
  iexists _; iexact H7

variable (m : (ℓ : Loc nD τ sig) → Buf (Elt F) ℓ) (ρ : Dev nD → PrngReg)

/-- The pipeline's proof data: each input's buffer at its block, the result's at `blkOut` of the three blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blkOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = blkOut (iblk m c 0 t) (iblk m c 1 t) (iblk m c 2 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At every point the body takes each buffer from what it holds before to what it holds after. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3]
  rw [show (dats m 0 c).Φ t.castSucc = Pipeline.ΦA spec0 c from rfl]
  unfold Pipeline.ΦA
  rw [scopedRest0_eq]
  iintro ⟨⟨⟨%g, Hs⟩, Hp⟩, Ho, ⟨%d0, H0⟩, ⟨%d1, H1⟩, ⟨%d2, H2⟩, ⟨%d3, H3⟩⟩
  iapply (body_owns c _ _ _ _ _ _ _ _ _ (Memref.whole cc0_scratch0) (Memref.isWhole_whole _) (iblk m c 0 t) (iblk m c 1 t) (iblk m c 2 t) Set.univ _)
  isplitl [H0]; · iexact H0
  isplitl [H1]; · iexact H1
  isplitl [H2]; · iexact H2
  isplitl [H3]; · iexists _; iexact H3
  isplitl [Hs]; · iexists g; rw [show (Memref.whole cc0_scratch0).view.set = Finset.univ from (Memref.isWhole_whole _).set_eq_univ]; iexact Hs
  iintro ⟨H0, H1, H2, H3, ⟨%g', Hs⟩⟩
  isplitl [Hs Hp]
  · isplitl [Hs]
    · iexists g'; rw [show (Memref.whole cc0_scratch0).view.set = Finset.univ from (Memref.isWhole_whole _).set_eq_univ]; iexact Hs
    iexact Hp
  isplitl [Ho]; · iexact Ho
  isplitl [H0]; · iexact H0
  isplitl [H1]; · iexact H1
  isplitl [H2]; · iexact H2
  iexact H3

set_option backward.isDefEq.respectTransparency.types false in
/-- From any memory with zero counters every execution of the program ends, with each array at what the proof data computes. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The arguments end as launched, every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main (F := F) m ρ)
end Cert.KernelIdeal.Att

end

end
-- ==== Proof.Entry.lean ====
module

public import proofs.«01_k».proof.Proof.Pack
public import proofs.«01_k».proof.Proof.Data
public import Idealize.ShloMosaic.Lib.Pipeline.ValueKit
public import Idealize.ShloMosaic.Lib.Claim
public import Idealize.ShloMosaic.Lib.StableHlo.RunRead

/-! The call's operands at its entry: the packed queries, keys and transposed values of the arguments. -/

@[expose] public section

set_option maxRecDepth 16384
noncomputable section
namespace Cert.KernelIdeal.Att
open Idealize.ShloMosaic Idealize.ShloMosaic.TcCoe Idealize.SL.Sem
open Idealize.ShloMosaic.Pipeline (Dat)
open Cert.KernelIdeal Cert.KernelIdeal.Gen
variable (m : (ℓ : Loc nD τ sig) → Buf (Elt Ideal) ℓ)

theorem entry_q (c : Dev nD) : V m c main_v18 = PQ (m ((c : Thread nD τ).loc main_arg0)) (m ((c : Thread nD τ).loc main_arg1)) := by
  unfold_abbrev_sides
  after_reads_simp
  rfl
theorem entry_k (c : Dev nD) : V m c main_v19 = PK (m ((c : Thread nD τ).loc main_arg2)) (m ((c : Thread nD τ).loc main_arg3)) := by
  unfold_abbrev_sides
  after_reads_simp
  rfl
theorem entry_v (c : Dev nD) : V m c main_v17 = PV (m ((c : Thread nD τ).loc main_arg4)) := by
  unfold_abbrev_sides
  after_reads_simp
  rfl

end Cert.KernelIdeal.Att

end

end
-- ==== Proof.Value.lean ====
module

public import proofs.«01_k».proof.Proof.Core
public import proofs.«01_k».proof.Proof.Entry
public import Idealize.ShloMosaic.Lib.Pipeline.ValueKit
public import Idealize.ShloMosaic.Lib.Claim

/-! The call's result array is the reference's. -/

@[expose] public section

set_option maxRecDepth 16384
noncomputable section
namespace Cert.KernelIdeal.Att
open Idealize.ShloMosaic Idealize.ShloMosaic.TcCoe Idealize.SL.Sem
open Idealize.ShloMosaic.Pipeline (Dat)
open Cert.KernelIdeal Cert.KernelIdeal.Gen
variable (m : (ℓ : Loc nD τ sig) → Buf (Elt Ideal) ℓ)

theorem run_frame (ρ : Dev nD → PrngReg) : θ_run defs (onTc (τ := τ) (main (F := Ideal))) ⟨m, fun _ => 0, ρ⟩
    (fun r => Pipeline.FramePost cfgs (dats m) 0 (V m) r) :=
  (θ_run defs _ _).mono (fun _ h => h.1) (run_main m ρ)

theorem idx : ∀ t : Fin cfg0.N, win0_0.index t = ![t.val / 16, t.val % 4, t.val / 4 % 4] ∧ win0_1.index t = ![t.val / 16, 0, t.val / 4 % 4]
    ∧ win0_2.index t = ![t.val / 16, t.val / 4 % 4, 0, 0, 0] ∧ win0_3.index t = ![t.val / 16, t.val % 4, t.val / 4 % 4] :=
  (by decide +kernel : ∀ t : Fin grid0.N, _)

variable (c : Dev nD) (t : Fin cfg0.N)
theorem rdQ (G : FVec Ideal S8x8192x1024 .bf16) (x : Fin 2048) (y : Fin 256) (ht : t.val < 128) :
    (((cfg0.win 0).blk t).view.read (Elt Ideal) G : FVec Ideal S1x2048x256 .bf16) (ix3 0 x y)
      = G (ix3 ⟨t.val / 16, by omega⟩ ⟨2048 * (t.val % 4) + x.val, by omega⟩ ⟨256 * (t.val / 4 % 4) + y.val, by omega⟩) := by
  blk_point [idx t]
theorem rdA (G : FVec Ideal S8x8192x1024 .bf16) (x : Fin 8192) (y : Fin 256) (ht : t.val < 128) :
    (((cfg0.win 1).blk t).view.read (Elt Ideal) G : FVec Ideal S1x8192x256 .bf16) (ix3 0 x y)
      = G (ix3 ⟨t.val / 16, by omega⟩ x ⟨256 * (t.val / 4 % 4) + y.val, by omega⟩) := by
  blk_point [idx t]
theorem rdB (G : FVec Ideal S8x8x32x80x256 .bf16) (h : Fin 2) (n : Fin 32) (r : Fin 80) (κ : Fin 256) (ht : t.val < 128) :
    (((cfg0.win 2).blk t).view.read (Elt Ideal) G : FVec Ideal S1x2x32x80x256 .bf16) (ix5 0 h n r κ)
      = G (ix5 ⟨t.val / 16, by omega⟩ ⟨2 * (t.val / 4 % 4) + h.val, by omega⟩ n r κ) := by
  blk_point [idx t]

theorem hQ (ht : t.val < 128) (s : Fin 4) (h : Fin 2) (j : Fin 512) (e : Fin 128) :
    (iblk m c 0 t : FVec Ideal S1x2048x256 .bf16) (ix3 0 ⟨512 * s.val + j.val, by omega⟩ ⟨128 * h.val + e.val, by omega⟩)
      = pq (m ((c : Thread nD τ).loc main_arg0)) (m ((c : Thread nD τ).loc main_arg1))
        (ix4 ⟨t.val / 16, by omega⟩ ⟨2048 * (t.val % 4) + (512 * s.val + j.val), by omega⟩ ⟨2 * (t.val / 4 % 4) + h.val, by omega⟩ e) := by
  refine (rdQ t (V m c main_v18) _ _ ht).trans ((congrFun (entry_q m c) _).trans (Eq.trans ?_ (PQ_at _ _ _ _ _ _)))
  exact congrArg (PQ _ _) (congrArg (ix3 _ _) (Fin.ext (by simp only; omega)))
theorem hA (ht : t.val < 128) (h : Fin 2) (k : Fin 8192) (e : Fin 128) :
    (iblk m c 1 t : FVec Ideal S1x8192x256 .bf16) (ix3 0 k ⟨128 * h.val + e.val, by omega⟩)
      = pk (m ((c : Thread nD τ).loc main_arg2)) (m ((c : Thread nD τ).loc main_arg3))
        (ix4 ⟨t.val / 16, by omega⟩ k ⟨2 * (t.val / 4 % 4) + h.val, by omega⟩ e) := by
  refine (rdA t (V m c main_v19) _ _ ht).trans ((congrFun (entry_k m c) _).trans (Eq.trans ?_ (PK_at _ _ _ _ _ _)))
  exact congrArg (PK _ _) (congrArg (ix3 _ _) (Fin.ext (by simp only; omega)))
theorem hB (ht : t.val < 128) (h : Fin 2) (n : Fin 32) (r : Fin 80) (κ : Fin 256) :
    (iblk m c 2 t : FVec Ideal S1x2x32x80x256 .bf16) (ix5 0 h n r κ)
      = pv (m ((c : Thread nD τ).loc main_arg4))
        (ix4 ⟨t.val / 16, by omega⟩ ⟨2 * (t.val / 4 % 4) + h.val, by omega⟩ r ⟨n.val * 256 + κ.val, by omega⟩) :=
  (rdB t (V m c main_v17) _ _ _ _ ht).trans ((congrFun (entry_v m c) _).trans (PV_at _ _ _ _ _ _))
/-- Which of the four stores an element of the result's block comes from. -/
theorem blk_at (Q : FVec Ideal S1x2048x256 .bf16) (A : FVec Ideal S1x8192x256 .bf16) (B : FVec Ideal S1x2x32x80x256 .bf16)
    (s : Fin 4) (j : Fin 512) (l : Fin 128) (y : S1x2048x128.Idx) (hy1 : (y 1).val = 512 * s.val + j.val) (hy2 : (y 2).val = l.val) :
    blkOut Q A B y = outp Q A B s (ix3 0 j l) := by
  have key : ∀ (k : Fin 4) (x : S1x512x128.Idx), (y 1).val = 512 * k.val + (x 1).val → (y 2).val = (x 2).val →
      outp Q A B k x = outp Q A B s (ix3 0 j l) := fun k x e1 e2 => by
    have x1 : (x 1).val < 512 := (x 1).isLt
    have e : k = s := Fin.ext (by omega)
    subst e
    refine congrArg _ (funext fun a => Fin.ext ?_)
    fin_cases a
    · exact Nat.lt_one_iff.mp (x 0).isLt
    · show (x 1).val = j.val; omega
    · show (x 2).val = l.val; omega
  unfold blkOut pcs
  canon_tiles x h
  · exact key 3 x h1 h2
  · exact key 2 x h1 h2
  · exact key 1 x h1 h2
  · exact key 0 x (by simpa using h1) h2
variable (h0 : ∀ i, ∃ r : ℝ, m ((c : Thread nD τ).loc main_arg0) i = (r : EReal)) (h1 : ∀ i, ∃ r : ℝ, m ((c : Thread nD τ).loc main_arg1) i = (r : EReal))
    (h2 : ∀ i, ∃ r : ℝ, m ((c : Thread nD τ).loc main_arg2) i = (r : EReal)) (h3 : ∀ i, ∃ r : ℝ, m ((c : Thread nD τ).loc main_arg3) i = (r : EReal))
include h0 h1 h2 h3
/-- One element of the block of point `t`, at head `h` of the pair. -/
theorem point_at (ht : t.val < 128) (s : Fin 4) (j : Fin 512) (h : Fin 2) (d : Fin 64) (y : S1x2048x128.Idx) (i : S8x8192x512.Idx)
    (hy1 : (y 1).val = 512 * s.val + j.val) (hy2 : (y 2).val = 64 * h.val + d.val)
    (i0 : (i 0).val = t.val / 16) (i1 : (i 1).val = 2048 * (t.val % 4) + (y 1).val) (i2 : (i 2).val = 128 * (t.val / 4 % 4) + (y 2).val) :
    blkOut (iblk m c 0 t) (iblk m c 1 t) (iblk m c 2 t) y
      = Cert.ReferenceIdeal.Att.REF (m ((c : Thread nD τ).loc main_arg0)) (m ((c : Thread nD τ).loc main_arg1))
          (m ((c : Thread nD τ).loc main_arg2)) (m ((c : Thread nD τ).loc main_arg3)) (m ((c : Thread nD τ).loc main_arg4)) i := by
  have hc := core (m ((c : Thread nD τ).loc main_arg0)) (m ((c : Thread nD τ).loc main_arg1)) (m ((c : Thread nD τ).loc main_arg2))
    (m ((c : Thread nD τ).loc main_arg3)) (m ((c : Thread nD τ).loc main_arg4)) h0 h1 h2 h3 (iblk m c 0 t) (iblk m c 1 t) (iblk m c 2 t) s h j d
    ⟨t.val / 16, by omega⟩ ⟨2 * (t.val / 4 % 4) + h.val, by omega⟩ ⟨2048 * (t.val % 4) + (512 * s.val + j.val), by omega⟩
    (hQ m c t ht s h j) (hA m c t ht h) (hB m c t ht h)
  have hi : i = ix3 ⟨t.val / 16, by omega⟩ ⟨2048 * (t.val % 4) + (512 * s.val + j.val), by omega⟩
      ⟨(2 * (t.val / 4 % 4) + h.val) * 64 + d.val, by omega⟩ := by
    refine funext fun a => Fin.ext ?_
    fin_cases a
    · exact i0
    · exact i1.trans (by rw [hy1]; rfl)
    · refine i2.trans ?_
      show _ = (2 * (t.val / 4 % 4) + h.val) * 64 + d.val
      rw [hy2]; omega
  rw [hi, ← hc, blk_at _ _ _ s j ⟨64 * h.val + d.val, by omega⟩ y hy1 hy2]
  unfold outp
  fin_cases h
  · exact (congrArg (fin _ _) (congrArg (ix3 0 j) (Fin.ext (by simp)))).trans (fin_at0 _ _ j d)
  · exact fin_at1 _ _ j d
/-- The call's result array. -/
theorem final : (dats m 0 c).arrAt 3 (cfgs 0).N
    = Cert.ReferenceIdeal.Att.REF (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 3 _ (by decide +kernel) fun t _ y => ?_
  have ht := lt_of_lt_of_eq t.isLt N_0
  blk_simp
  rw [after0_3]
  have y0 : (y 0).val < 1 := (y 0).isLt
  have y1 : (y 1).val < 2048 := (y 1).isLt
  have y2 : (y 2).val < 128 := (y 2).isLt
  refine point_at m c t h0 h1 h2 h3 ht ⟨(y 1).val / 512, by omega⟩ ⟨(y 1).val % 512, by omega⟩ ⟨(y 2).val / 64, by omega⟩
    ⟨(y 2).val % 64, by omega⟩ y _ (by simp only; omega) (by simp only; omega) ?_ ?_ ?_
  all_goals (blk_simp [idx t] <;> try omega)
end Cert.KernelIdeal.Att

end

end
-- ==== Proof.Finite.lean ====
module

public import proofs.«01_k».proof.Pre_finite_scores
public import Idealize.ShloMosaic.Lib.ReduceAll
public import Idealize.ShloMosaic.Lib.WordArith
public import Idealize.ShloMosaic.Lib.Affine
public import Idealize.ShloMosaic.Lib.Pointwise

/-! The precondition, read: the queries and the keys are reals. -/

@[expose] public section

set_option maxRecDepth 16384
noncomputable section
namespace Cert.Pre_finite_scores
open Idealize.ShloMosaic

theorem facts : Facts where
  bcast_S_S8x8192x8x64 := by decide
  reducesTo_S8x8192x8x64_S_d0_1_2_3 := by decide
  h_S_ := by decide
  bcast_S_S8x8192x8x32 := by decide
  reducesTo_S8x8192x8x32_S_d0_1_2_3 := by decide
  bcast_S_S8x8192x32 := by decide
  reducesTo_S8x8192x32_S_d0_1_2 := by decide

theorem and_one (a b : BitVec 1) (h : IntOp.andi a b = 1#1) : a = 1#1 ∧ b = 1#1 := by
  revert a b; unfold IntOp.andi; decide

/-- A magnitude below infinity is a real's. -/
theorem real_of_lt (x : EReal) (h : max x (-x) < ⊤) : ∃ r : ℝ, x = r := by
  rw [max_lt_iff] at h
  induction x using EReal.rec with
  | bot => exact absurd h.2 (by simp)
  | coe r => exact ⟨r, rfl⟩
  | top => exact absurd h.1 (by simp)

theorem one_real (x : Ideal .f32) (h : FloatOps.cmpf .olt (FloatOps.hostAbsf x) (FloatOps.ofBits (F := Ideal) .f32 0x7F800000#32) = 1#1) :
    ∃ r : ℝ, (x : EReal) = r := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  refine real_of_lt x ?_
  by_contra hn
  simp [hn] at h'

variable [Facts]
open Facts
instance : Subsingleton S_.Idx := ⟨fun a b => funext fun i => i.elim0⟩

/-- The four arrays are real where the predicate is all ones. -/
theorem reals (X0 : FVec Ideal S8x8192x8x64 .f32) (X1 : FVec Ideal S8x8192x8x32 .f32) (X2 : FVec Ideal S8x8192x8x64 .f32)
    (X3 : FVec Ideal S8x8192x32 .f32) (X4 : FVec Ideal S8x8192x8x64 .f32) (h : fn (F := Ideal) X0 X1 X2 X3 X4 = fun _ => 1#1) :
    (∀ i, ∃ r : ℝ, X0 i = (r : EReal)) ∧ (∀ i, ∃ r : ℝ, X1 i = (r : EReal)) ∧ (∀ i, ∃ r : ℝ, X2 i = (r : EReal))
      ∧ ∀ i, ∃ r : ℝ, X3 i = (r : EReal) := by
  have h := congrFun h ix0
  dsimp only [fn, fn_part1] at h
  obtain ⟨h, h3⟩ := and_one _ _ h
  obtain ⟨h, h2⟩ := and_one _ _ h
  obtain ⟨h0, h1⟩ := and_one _ _ h
  exact ⟨fun i => one_real _ (Host.reduce_andi_all _ _ _ _ _ h0 i), fun i => one_real _ (Host.reduce_andi_all _ _ _ _ _ h1 i),
    fun i => one_real _ (Host.reduce_andi_all _ _ _ _ _ h2 i), fun i => one_real _ (Host.reduce_andi_all _ _ _ _ _ h3 i)⟩
end Cert.Pre_finite_scores

end

end
-- ==== Proof.TailRef.lean ====
module

public import proofs.«01_k».proof.Proof.Gen.Reference2Ideal
public import Idealize.ShloMosaic.Lib.Pointwise

/-! The result of the reference of the last layer's output, read at an index. -/

@[expose] public section

set_option maxRecDepth 16384
noncomputable section
namespace Cert.Reference2Ideal.Tail
open Idealize.ShloMosaic
open Cert.Reference2Ideal Cert.Reference2Ideal.Gen

/-- The logistic function as the reference writes it. -/
def lg (z : EReal) : EReal := Ideal.div (Ideal.ofBits .f32 0x3F800000#32) (Ideal.ofBits .f32 0x3F800000#32 + Ideal.exp (-z))

variable (A0 A1 MO ML : FVec Ideal S8x8192x512 .f32) (HF HB : FVec Ideal S8x4x8192x128 .f32) (NG : FVec Ideal S128 .f32)
  (W : FVec Ideal S1024x1024 .f32) (X : FVec Ideal S8x8192x1024 .f32) (FG : FVec Ideal S1024 .f32)

/-- The logistic function of an array. -/
def lgs : FVec Ideal S8x8192x512 .f32 :=
  Host.divf (broadcastInDim S8x8192x512 ![] bcast_S_S8x8192x512 (constant S_ .f32 0x3F800000#32)) (addf (broadcastInDim S8x8192x512 ![] bcast_S_S8x8192x512 (constant S_ .f32 0x3F800000#32)) (Host.exp (Host.negf A1)))
/-- The first branch. -/
def brA : FVec Ideal S8x8192x512 .f32 := mulf A0 (mulf A1 (lgs A1))
/-- The second branch, normed by heads. -/
def hno : FVec Ideal S8x4x8192x128 .f32 :=
  mulf (mulf (addf HF HB) (broadcastInDim S8x4x8192x128 ![0, 1, 2, 3] bcast_S8x4x8192x1_S8x4x8192x128_0_1_2_3 (Host.rsqrt (addf (Host.divf (broadcastInDim S8x4x8192x1 ![0, 1, 2] bcast_S8x4x8192_S8x4x8192x1_0_1_2 (Host.reduceAdd (mulf (addf HF HB) (addf HF HB)) (constant S_ .f32 0x00000000#32) reducesTo_S8x4x8192x128_S8x4x8192_d3 h_S_)) (broadcastInDim S8x4x8192x1 ![] bcast_S_S8x4x8192x1 (constant S_ .f32 0x43000000#32))) (broadcastInDim S8x4x8192x1 ![] bcast_S_S8x4x8192x1 (constant S_ .f32 0x358637BD#32)))))) (broadcastInDim S8x4x8192x128 ![0, 1, 2, 3] bcast_S1x1x1x128_S8x4x8192x128_0_1_2_3 (broadcastInDim S1x1x1x128 ![3] bcast_S128_S1x1x1x128_3 NG))
/-- The second branch, gated. -/
def brB : FVec Ideal S8x8192x512 .f32 :=
  mulf (mulf (shapeCast _ (transpose S8x8192x4x128 [0, 2, 1, 3] (hno HF HB NG) transposes_S8x4x8192x128_S8x8192x4x128_0_2_1_3) shapeCasts_S8x8192x4x128_S8x8192x512) (lgs MO)) (mulf ML (lgs ML))
/-- The residual stream after the layer. -/
def rst : FVec Ideal S8x8192x1024 .f32 :=
  addf X (Host.dotGeneral dot_S8x8192x1024_S1024x1024_S8x8192x1024_2_0_01_1_n_n none (concatenate S8x8192x1024 2 [⟨S8x8192x512, brA A0 A1⟩, ⟨S8x8192x512, brB MO ML HF HB NG⟩] concatenates_S8x8192x512_S8x8192x512_S8x8192x1024_d2) W)
/-- The final norm of a residual stream. -/
def fno (R : FVec Ideal S8x8192x1024 .f32) : FVec Ideal S8x8192x1024 .f32 :=
  mulf (mulf R (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf R R) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 FG))

theorem lgs_at (b : Fin 8) (s : Fin 8192) (l : Fin 512) : lgs A1 (ix3 b s l) = lg (A1 (ix3 b s l)) := by
  pointwise [lgs, lg]
theorem brA_at (b : Fin 8) (s : Fin 8192) (l : Fin 512) :
    brA A0 A1 (ix3 b s l) = A0 (ix3 b s l) * (A1 (ix3 b s l) * lgs A1 (ix3 b s l)) := by
  pointwise [brA]
theorem hno_at (b : Fin 8) (h : Fin 4) (s : Fin 8192) (e : Fin 128) : hno HF HB NG (ix4 b h s e)
    = (HF (ix4 b h s e) + HB (ix4 b h s e)) * Ideal.rsqrt (Ideal.div (∑ d : Fin 128, (HF (ix4 b h s d) + HB (ix4 b h s d)) * (HF (ix4 b h s d) + HB (ix4 b h s d))) (Ideal.ofBits .f32 0x43000000#32)
        + Ideal.ofBits .f32 0x358637BD#32) * NG (ix1 e) := by
  pointwise [hno]
theorem brB_at (b : Fin 8) (s : Fin 8192) (h : Fin 4) (e : Fin 128) : brB MO ML HF HB NG (ix3 b s ⟨h.val * 128 + e.val, by omega⟩)
    = hno HF HB NG (ix4 b h s e) * lgs MO (ix3 b s ⟨h.val * 128 + e.val, by omega⟩)
      * (ML (ix3 b s ⟨h.val * 128 + e.val, by omega⟩) * lgs ML (ix3 b s ⟨h.val * 128 + e.val, by omega⟩)) := by
  have key : ∀ l : Fin 512, brB MO ML HF HB NG (ix3 b s l)
      = hno HF HB NG (ix4 b ⟨l.val / 128, by omega⟩ s ⟨l.val % 128, by omega⟩) * lgs MO (ix3 b s l) * (ML (ix3 b s l) * lgs ML (ix3 b s l)) := fun l => by
    pointwise [brB]
  have e1 : (⟨(h.val * 128 + e.val) / 128, by omega⟩ : Fin 4) = h := Fin.ext (by simp only; omega)
  have e2 : (⟨(h.val * 128 + e.val) % 128, by omega⟩ : Fin 128) = e := Fin.ext (by simp only; omega)
  rw [key, e1, e2]
/-- A product with two arrays side by side is the sum of the products with each. -/
theorem rst_at (b : Fin 8) (s : Fin 8192) (n : Fin 1024) : rst A0 A1 MO ML HF HB NG W X (ix3 b s n)
    = X (ix3 b s n) + ((∑ l : Fin 512, brA A0 A1 (ix3 b s l) * W (ix2 ⟨0 + l.val, by omega⟩ n))
        + ∑ l : Fin 512, brB MO ML HF HB NG (ix3 b s l) * W (ix2 ⟨512 + l.val, by omega⟩ n)) := by
  have e : rst A0 A1 MO ML HF HB NG W X (ix3 b s n) = X (ix3 b s n)
      + ∑ k : Fin (512 + 512), concatenate S8x8192x1024 2 [⟨S8x8192x512, brA A0 A1⟩, ⟨S8x8192x512, brB MO ML HF HB NG⟩] concatenates_S8x8192x512_S8x8192x512_S8x8192x1024_d2 (ix3 b s k) * W (ix2 k n) := by
    generalize hC : concatenate S8x8192x1024 2 [⟨S8x8192x512, brA A0 A1⟩, ⟨S8x8192x512, brB MO ML HF HB NG⟩] concatenates_S8x8192x512_S8x8192x512_S8x8192x1024_d2 = C
    rw [rst, hC]
    pointwise
  rw [e, Fin.sum_univ_add]
  refine congrArg _ (congrArg₂ (· + ·) (Finset.sum_congr rfl fun l _ => congrArg₂ (· * ·) ?_ ?_) (Finset.sum_congr rfl fun l _ => congrArg₂ (· * ·) ?_ ?_))
  · generalize brA A0 A1 = P
    generalize brB MO ML HF HB NG = Q
    pointwise
    exact dif_pos l.isLt
  · exact congrArg W (congrArg (ix2 · n) (Fin.ext (Nat.zero_add _).symm))
  · generalize brA A0 A1 = P
    generalize brB MO ML HF HB NG = Q
    pointwise
    exact (dif_neg (Nat.not_lt.mpr (Nat.le_add_right 512 l.val))).trans (congrArg Q (congrArg (ix3 b s) (Fin.ext (Nat.add_sub_cancel_left 512 l.val))))
  · rfl
theorem fno_at (R : FVec Ideal S8x8192x1024 .f32) (b : Fin 8) (s : Fin 8192) (n : Fin 1024) : fno FG R (ix3 b s n)
    = R (ix3 b s n) * Ideal.rsqrt (Ideal.div (∑ d : Fin 1024, R (ix3 b s d) * R (ix3 b s d)) (Ideal.ofBits .f32 0x44800000#32)
        + Ideal.ofBits .f32 0x358637BD#32) * FG (ix1 n) := by
  pointwise [fno]

end Cert.Reference2Ideal.Tail

end

end
-- ==== Proof.TailKer.lean ====
module

public import proofs.«01_k».proof.Proof.Gen.Kernel2Ideal
public import proofs.«01_k».proof.Proof.Gen.Kernel2Ideal.Value
public import proofs.«01_k».proof.Proof.TailRef
public import Idealize.ShloMosaic.Lib.Pipeline.ValueKit
public import Idealize.ShloMosaic.Lib.StableHlo.RunRead

/-! The last layer's output as the kernel computes it, read at an index. -/

@[expose] public section

set_option maxRecDepth 16384
noncomputable section
namespace Cert.Kernel2Ideal.Tail
open Idealize.ShloMosaic
open Cert.Kernel2Ideal Cert.Kernel2Ideal.Gen
open Cert.Reference2Ideal.Tail (lg)

/-- A head's column of a row: normed, scaled and gated. -/
def col (y mo gt : FVec Ideal S1024x512 .f32) (ng : FVec Ideal S1x128 .f32) (h : Fin 4) (r : Fin 1024) (e : Fin 128) : EReal :=
  y (ix2 r ⟨h.val * 128 + e.val, by omega⟩) * Ideal.rsqrt (Ideal.div (∑ d : Fin 128, y (ix2 r ⟨h.val * 128 + d.val, by omega⟩) * y (ix2 r ⟨h.val * 128 + d.val, by omega⟩)) (Ideal.ofBits .f32 0x43000000#32)
        + Ideal.ofBits .f32 0x358637BD#32) * ng (ix2 0 e) * lg (mo (ix2 r ⟨h.val * 128 + e.val, by omega⟩))
    * (gt (ix2 r ⟨h.val * 128 + e.val, by omega⟩) * lg (gt (ix2 r ⟨h.val * 128 + e.val, by omega⟩)))

/-- The logistic function as the kernel writes it. -/
theorem lg_eq (z : EReal) : Ideal.div 1 (1 + Ideal.exp (0 - z)) = lg z := by
  have e : Ideal.ofBits .f32 0x3F800000#32 = 1 := by pointwise
  rw [lg, e, zero_sub]
/-- Four arrays of 128 columns side by side. -/
theorem cat4 (P Q S T : FVec Ideal S1024x128 .bf16) (r : Fin 1024) (h : Fin 4) (e : Fin 128) :
    concatenate S1024x512 1 [⟨S1024x128, P⟩, ⟨S1024x128, Q⟩, ⟨S1024x128, S⟩, ⟨S1024x128, T⟩] concatenates_S1024x128_S1024x128_S1024x128_S1024x128_S1024x512_d1
      (ix2 r ⟨h.val * 128 + e.val, by omega⟩) = (![P, Q, S, T] h) (ix2 r e) := by
  fin_cases h <;> (pointwise <;> split_ifs <;> first | omega | exact congrArg _ (congrArg _ (Fin.ext (by simp only; omega))))

theorem pay2_at (x0 x1 : FVec Ideal S1x1024x512 .bf16) (r : Fin 1024) (l : Fin 512) : k0_pay2 (F := Ideal) x0 x1 (ix2 r l)
    = x0 (ix3 0 r l) * (x1 (ix3 0 r l) * lg (x1 (ix3 0 r l))) := by
  pointwise [k0_pay2]
  simp only [lg_eq]
theorem pay3_at (x0 x1 : FVec Ideal S1x1024x512 .bf16) (r : Fin 1024) (l : Fin 512) : k0_pay3 (F := Ideal) x0 x1 (ix2 r l)
    = x0 (ix3 0 r l) + x1 (ix3 0 r l) := by
  pointwise [k0_pay3]
theorem pay4_at (x0 : FVec Ideal S1x1024x512 .bf16) (r : Fin 1024) (l : Fin 512) : k0_pay4 (F := Ideal) x0 (ix2 r l) = x0 (ix3 0 r l) := by
  pointwise [k0_pay4]
theorem pay5_at (x0 : FVec Ideal S1x1024x512 .bf16) (r : Fin 1024) (l : Fin 512) : k0_pay5 (F := Ideal) x0 (ix2 r l) = x0 (ix3 0 r l) := by
  pointwise [k0_pay5]

theorem col0 (x0 x1 : FVec Ideal S1x1024x512 .bf16) (mo gt : FVec Ideal S1024x512 .f32) (ng : FVec Ideal S1x128 .f32) (r : Fin 1024) (e : Fin 128) :
    k0_pay9 (F := Ideal) mo gt (k0_pay6 x0 x1) (k0_pay7 ng) (k0_pay8 x0 x1) (ix2 r e) = col (k0_pay3 (F := Ideal) x0 x1) mo gt ng 0 r e := by
  unfold k0_pay8 k0_pay6
  generalize k0_pay3 (F := Ideal) x0 x1 = y
  pointwise [k0_pay9, k0_pay7, col]
  simp only [lg_eq]
theorem col1 (y mo gt : FVec Ideal S1024x512 .f32) (ng : FVec Ideal S1x128 .f32) (r : Fin 1024) (e : Fin 128) :
    k0_pay12 (F := Ideal) gt (k0_pay10 y ng) (k0_pay11 mo) (Scalar.ofBits .f32 0x00000000#32) (ix2 r e) = col y mo gt ng 1 r e := by
  pointwise [k0_pay12, k0_pay10, k0_pay11, col]
  simp only [lg_eq]

/-- The second branch's block from its first two heads' columns. -/
theorem cat_at (y mo gt : FVec Ideal S1024x512 .f32) (ng : FVec Ideal S1x128 .f32) (P Q : FVec Ideal S1024x128 .bf16)
    (hP : ∀ (r : Fin 1024) (e : Fin 128), P (ix2 r e) = col y mo gt ng 0 r e) (hQ : ∀ (r : Fin 1024) (e : Fin 128), Q (ix2 r e) = col y mo gt ng 1 r e)
    (r : Fin 1024) (h : Fin 4) (e : Fin 128) :
    k0_pay16 (F := Ideal) y mo gt P Q (k0_pay13 y mo ng) (k0_pay14 gt) (k0_pay15 gt) ng (ix2 r ⟨h.val * 128 + e.val, by omega⟩) = col y mo gt ng h r e := by
  unfold k0_pay16
  refine (cat4 _ _ _ _ r h e).trans ?_
  fin_cases h
  · exact hP r e
  · exact hQ r e
  · pointwise [k0_pay13, k0_pay14, k0_pay15, col]
    simp only [lg_eq]
  · pointwise [col]
    simp only [lg_eq]

/-- The whole payload. -/
theorem pay1_at (a c : FVec Ideal S1024x512 .bf16) (x : FVec Ideal S1x1024x1024 .f32) (u v : FVec Ideal S512x1024 .bf16) (g : FVec Ideal S1x1024 .f32)
    (R : Fin 1024 → EReal) (r : Fin 1024) (hR : ∀ n : Fin 1024, R n = x (ix3 0 r n) + ((∑ l : Fin 512, a (ix2 r l) * u (ix2 l n)) + ∑ l : Fin 512, c (ix2 r l) * v (ix2 l n))) (n : Fin 1024) :
    k0_pay1 (F := Ideal) a c x u v g (ix3 0 r n) = R n * Ideal.rsqrt (Ideal.div (∑ d : Fin 1024, R d * R d) (Ideal.ofBits .f32 0x44800000#32)
        + Ideal.ofBits .f32 0x358637BD#32) * g (ix2 0 n) := by
  simp only [hR]
  pointwise [k0_pay1]

end Cert.Kernel2Ideal.Tail

end

end
-- ==== Proof.TailVal.lean ====
module

public import proofs.«01_k».proof.Proof.TailKer

/-! The last layer's output: the kernel's result is the reference's. -/

@[expose] public section

set_option maxRecDepth 16384
noncomputable section
namespace Cert.Kernel2Ideal.Tail
open Idealize.ShloMosaic
open Cert.Kernel2Ideal Cert.Kernel2Ideal.Gen
open Cert.Reference2Ideal.Tail (lg lgs lgs_at brA brA_at hno hno_at brB brB_at rst rst_at fno fno_at)

variable (m : (ℓ : Loc nD τ sig) → Buf (Elt Ideal) ℓ)

theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 0] ∧ win0_4.index t = ![t.val / 8, t.val % 8, 0]
    ∧ win0_5.index t = ![t.val / 8, t.val % 8, 0] ∧ win0_6.index t = ![0, 0] ∧ win0_7.index t = ![0, 0] ∧ win0_8.index t = ![0, 0]
    ∧ win0_9.index t = ![t.val / 8, t.val % 8, 0] ∧ win0_10.index t = ![0, 0] ∧ win0_11.index t = ![t.val / 8, t.val % 8, 0] :=
  (by decide +kernel : ∀ t : Fin grid0.N, _)

theorem rd0 (c : Dev nD) (t : Fin cfg0.N) (ht : t.val < 64) (r : Fin 1024) (l : Fin 512) : iblk m c 0 t (ix3 0 r l)
    = m ((c.tc : Thread nD τ).loc main_arg0) (ix3 (⟨t.val / 8, by omega⟩ : Fin 8) (⟨t.val % 8 * 1024 + r.val, by omega⟩ : Fin 8192) l) := by
  blk_point [iblk, V, idx t]
theorem rd1 (c : Dev nD) (t : Fin cfg0.N) (ht : t.val < 64) (r : Fin 1024) (l : Fin 512) : iblk m c 1 t (ix3 0 r l)
    = m ((c.tc : Thread nD τ).loc main_arg1) (ix3 (⟨t.val / 8, by omega⟩ : Fin 8) (⟨t.val % 8 * 1024 + r.val, by omega⟩ : Fin 8192) l) := by
  blk_point [iblk, V, idx t]
theorem rd4 (c : Dev nD) (t : Fin cfg0.N) (ht : t.val < 64) (r : Fin 1024) (l : Fin 512) : iblk m c 4 t (ix3 0 r l)
    = m ((c.tc : Thread nD τ).loc main_arg4) (ix3 (⟨t.val / 8, by omega⟩ : Fin 8) (⟨t.val % 8 * 1024 + r.val, by omega⟩ : Fin 8192) l) := by
  blk_point [iblk, V, idx t]
theorem rd5 (c : Dev nD) (t : Fin cfg0.N) (ht : t.val < 64) (r : Fin 1024) (l : Fin 512) : iblk m c 5 t (ix3 0 r l)
    = m ((c.tc : Thread nD τ).loc main_arg5) (ix3 (⟨t.val / 8, by omega⟩ : Fin 8) (⟨t.val % 8 * 1024 + r.val, by omega⟩ : Fin 8192) l) := by
  blk_point [iblk, V, idx t]
theorem rd2 (c : Dev nD) (t : Fin cfg0.N) (ht : t.val < 64) (r : Fin 1024) (h : Fin 4) (e : Fin 128) :
    iblk m c 2 t (ix3 0 r ⟨h.val * 128 + e.val, by omega⟩)
    = m ((c.tc : Thread nD τ).loc main_arg2) (ix4 (⟨t.val / 8, by omega⟩ : Fin 8) h (⟨t.val % 8 * 1024 + r.val, by omega⟩ : Fin 8192) e) := by
  blk_point [iblk, V, idx t]
theorem rd3 (c : Dev nD) (t : Fin cfg0.N) (ht : t.val < 64) (r : Fin 1024) (h : Fin 4) (e : Fin 128) :
    iblk m c 3 t (ix3 0 r ⟨h.val * 128 + e.val, by omega⟩)
    = m ((c.tc : Thread nD τ).loc main_arg3) (ix4 (⟨t.val / 8, by omega⟩ : Fin 8) h (⟨t.val % 8 * 1024 + r.val, by omega⟩ : Fin 8192) e) := by
  blk_point [iblk, V, idx t]
theorem rd6 (c : Dev nD) (t : Fin cfg0.N) (e : Fin 128) : iblk m c 6 t (ix2 0 e) = m ((c.tc : Thread nD τ).loc main_arg6) (ix1 e) := by
  blk_point [iblk, V, idx t]
theorem rd7 (c : Dev nD) (t : Fin cfg0.N) (l : Fin 512) (n : Fin 1024) : iblk m c 7 t (ix2 l n)
    = m ((c.tc : Thread nD τ).loc main_arg7) (ix2 (⟨0 + l.val, by omega⟩ : Fin 1024) n) := by
  blk_point [iblk, V, idx t]
theorem rd8 (c : Dev nD) (t : Fin cfg0.N) (l : Fin 512) (n : Fin 1024) : iblk m c 8 t (ix2 l n)
    = m ((c.tc : Thread nD τ).loc main_arg7) (ix2 (⟨512 + l.val, by omega⟩ : Fin 1024) n) := by
  blk_point [iblk, V, idx t]
theorem rd9 (c : Dev nD) (t : Fin cfg0.N) (ht : t.val < 64) (r : Fin 1024) (n : Fin 1024) : iblk m c 9 t (ix3 0 r n)
    = m ((c.tc : Thread nD τ).loc main_arg8) (ix3 (⟨t.val / 8, by omega⟩ : Fin 8) (⟨t.val % 8 * 1024 + r.val, by omega⟩ : Fin 8192) n) := by
  blk_point [iblk, V, idx t]
theorem rd10 (c : Dev nD) (t : Fin cfg0.N) (n : Fin 1024) : iblk m c 10 t (ix2 0 n) = m ((c.tc : Thread nD τ).loc main_arg9) (ix1 n) := by
  blk_point [iblk, V, idx t]

/-- The first branch's row. -/
theorem a_at (c : Dev nD) (t : Fin cfg0.N) (ht : t.val < 64) (r : Fin 1024) (l : Fin 512) :
    k0_pay2 (F := Ideal) (iblk m c 0 t) (iblk m c 1 t) (ix2 r l)
      = brA (m ((c.tc : Thread nD τ).loc main_arg0)) (m ((c.tc : Thread nD τ).loc main_arg1)) (ix3 (⟨t.val / 8, by omega⟩ : Fin 8) (⟨t.val % 8 * 1024 + r.val, by omega⟩ : Fin 8192) l) := by
  refine (pay2_at _ _ r l).trans ((brA_at _ _ _ _ _).trans ?_).symm
  rw [lgs_at, rd0 m c t ht, rd1 m c t ht]

/-- The second branch's row. -/
theorem c_at (c : Dev nD) (t : Fin cfg0.N) (ht : t.val < 64) (r : Fin 1024) (C : FVec Ideal S1024x512 .bf16)
    (hC : ∀ (h : Fin 4) (e : Fin 128), C (ix2 r ⟨h.val * 128 + e.val, by omega⟩)
      = col (k0_pay3 (F := Ideal) (iblk m c 2 t) (iblk m c 3 t)) (k0_pay4 (F := Ideal) (iblk m c 4 t)) (k0_pay5 (F := Ideal) (iblk m c 5 t)) (iblk m c 6 t) h r e) (l : Fin 512) :
    C (ix2 r l) = brB (m ((c.tc : Thread nD τ).loc main_arg4)) (m ((c.tc : Thread nD τ).loc main_arg5)) (m ((c.tc : Thread nD τ).loc main_arg2))
        (m ((c.tc : Thread nD τ).loc main_arg3)) (m ((c.tc : Thread nD τ).loc main_arg6)) (ix3 (⟨t.val / 8, by omega⟩ : Fin 8) (⟨t.val % 8 * 1024 + r.val, by omega⟩ : Fin 8192) l) := by
  obtain ⟨h, e, rfl⟩ : ∃ (h : Fin 4) (e : Fin 128), l = ⟨h.val * 128 + e.val, by omega⟩ :=
    ⟨⟨l.val / 128, by omega⟩, ⟨l.val % 128, by omega⟩, Fin.ext (by simp only; omega)⟩
  refine (hC h e).trans ((brB_at _ _ _ _ _ _ _ h e).trans ?_).symm
  unfold col
  rw [hno_at, lgs_at, lgs_at, pay4_at, pay5_at, rd4 m c t ht, rd5 m c t ht, rd6 m c t]
  simp only [pay3_at, rd2 m c t ht, rd3 m c t ht]

/-- One element of the block of point `t`. -/
theorem point (c : Dev nD) (t : Fin cfg0.N) (ht : t.val < 64) (r n : Fin 1024) (C : FVec Ideal S1024x512 .bf16)
    (hC : ∀ (h : Fin 4) (e : Fin 128), C (ix2 r ⟨h.val * 128 + e.val, by omega⟩)
      = col (k0_pay3 (F := Ideal) (iblk m c 2 t) (iblk m c 3 t)) (k0_pay4 (F := Ideal) (iblk m c 4 t)) (k0_pay5 (F := Ideal) (iblk m c 5 t)) (iblk m c 6 t) h r e) :
    k0_pay1 (F := Ideal) (k0_pay2 (iblk m c 0 t) (iblk m c 1 t)) C (iblk m c 9 t) (iblk m c 7 t) (iblk m c 8 t) (iblk m c 10 t) (ix3 0 r n)
      = fno (m ((c.tc : Thread nD τ).loc main_arg9)) (rst (m ((c.tc : Thread nD τ).loc main_arg0)) (m ((c.tc : Thread nD τ).loc main_arg1))
          (m ((c.tc : Thread nD τ).loc main_arg4)) (m ((c.tc : Thread nD τ).loc main_arg5)) (m ((c.tc : Thread nD τ).loc main_arg2))
          (m ((c.tc : Thread nD τ).loc main_arg3)) (m ((c.tc : Thread nD τ).loc main_arg6)) (m ((c.tc : Thread nD τ).loc main_arg7))
          (m ((c.tc : Thread nD τ).loc main_arg8))) (ix3 (⟨t.val / 8, by omega⟩ : Fin 8) (⟨t.val % 8 * 1024 + r.val, by omega⟩ : Fin 8192) n) := by
  refine (pay1_at _ _ _ _ _ _ (fun d => rst (m ((c.tc : Thread nD τ).loc main_arg0)) (m ((c.tc : Thread nD τ).loc main_arg1))
          (m ((c.tc : Thread nD τ).loc main_arg4)) (m ((c.tc : Thread nD τ).loc main_arg5)) (m ((c.tc : Thread nD τ).loc main_arg2))
          (m ((c.tc : Thread nD τ).loc main_arg3)) (m ((c.tc : Thread nD τ).loc main_arg6)) (m ((c.tc : Thread nD τ).loc main_arg7))
          (m ((c.tc : Thread nD τ).loc main_arg8)) (ix3 (⟨t.val / 8, by omega⟩ : Fin 8) (⟨t.val % 8 * 1024 + r.val, by omega⟩ : Fin 8192) d)) r (fun d => ?_) n).trans ((fno_at _ _ _ _ _).trans ?_).symm
  · refine (rst_at _ _ _ _ _ _ _ _ _ _ _ _).trans (congrArg₂ (· + ·) (rd9 m c t ht r d).symm (congrArg₂ (· + ·)
      (Finset.sum_congr rfl fun l _ => congrArg₂ (· * ·) (a_at m c t ht r l).symm (rd7 m c t l d).symm)
      (Finset.sum_congr rfl fun l _ => congrArg₂ (· * ·) (c_at m c t ht r C hC l).symm (rd8 m c t l d).symm)))
  · exact congrArg _ (rd10 m c t n).symm

/-- The call's result array. -/
theorem final (c : Dev nD) : (dats m 0 c).arrAt 11 (cfgs 0).N
    = fno (m ((c.tc : Thread nD τ).loc main_arg9)) (rst (m ((c.tc : Thread nD τ).loc main_arg0)) (m ((c.tc : Thread nD τ).loc main_arg1))
          (m ((c.tc : Thread nD τ).loc main_arg4)) (m ((c.tc : Thread nD τ).loc main_arg5)) (m ((c.tc : Thread nD τ).loc main_arg2))
          (m ((c.tc : Thread nD τ).loc main_arg3)) (m ((c.tc : Thread nD τ).loc main_arg6)) (m ((c.tc : Thread nD τ).loc main_arg7))
          (m ((c.tc : Thread nD τ).loc main_arg8))) := by
  refine (dats m 0 c).arrAt_eq_of_covers 11 _ (by decide +kernel) fun t _ y => ?_
  blk_simp
  rw [after0_11]; frame_out [k0_pay17, k0_pay18, k0_pay19]
  have ht : t.val < 64 := lt_of_lt_of_eq t.isLt N_0
  obtain ⟨r, n, rfl⟩ : ∃ (r n : Fin 1024), y = ix3 0 r n := ⟨y 1, y 2, by
    refine funext fun a => ?_
    fin_cases a
    · exact Subsingleton.elim (α := Fin 1) _ _
    · rfl
    · rfl⟩
  refine (point m c t ht r n _ fun h e => cat_at (k0_pay3 (F := Ideal) (iblk m c 2 t) (iblk m c 3 t)) (k0_pay4 (F := Ideal) (iblk m c 4 t))
    (k0_pay5 (F := Ideal) (iblk m c 5 t)) (iblk m c 6 t) _ _ (col0 _ _ _ _ _) (col1 _ _ _ _) r h e).trans (congrArg _ ?_).symm
  refine funext fun a => Fin.ext ?_
  fin_cases a <;> (blk_simp [idx t] <;> rfl)

end Cert.Kernel2Ideal.Tail

end

end
-- ==== Proof.Certs2.lean ====
module

public import proofs.«01_k».proof.Defs
public import proofs.«01_k».proof.Proof.TailVal
public import proofs.«01_k».proof.Proof.Gen.Kernel2
public import proofs.«01_k».proof.Proof.Gen.Kernel2.Frame
public import proofs.«01_k».proof.Proof.Gen.Reference2Ideal.Run
public import Idealize.ShloMosaic.Lib.Claim

/-! The last layer's output: the frames and the equality with the reference. -/

@[expose] public section

set_option maxRecDepth 16384
noncomputable section
namespace Cert.Proof
open Idealize.ShloMosaic Idealize.SL.Sem

theorem frame_kernel2 : Cert.quiescent_Kernel2 := fun m ρ _ => Cert.Kernel2.Gen.frame m ρ
theorem frame_ideal2 : Cert.quiescent_Kernel2Ideal := fun m ρ _ => Cert.Kernel2Ideal.Gen.frame m ρ
theorem frame_ref2 : Cert.quiescent_Reference2Ideal := fun m g _ =>
  (θ_run Cert.Reference2Ideal.defs _ _).mono (fun _ h => ⟨fun c => (h c).2, Idealize.ShloMosaic.sem_eq_zero_of_no_sems (by decide) _⟩)
    (Cert.Reference2Ideal.Value.run m g)

section
open Cert.Reference2Ideal
/-- What the reference computes, in named parts. -/
theorem ref2_eq (m : (ℓ : Loc nD τ sig) → Buf (Elt Ideal) ℓ) (c : Dev nD) : Cert.Reference2Ideal.Value.res_main_v42 m c
    = Tail.fno (m ((c.tc : Thread nD τ).loc main_arg9)) (Tail.rst (m ((c.tc : Thread nD τ).loc main_arg0)) (m ((c.tc : Thread nD τ).loc main_arg1)) (m ((c.tc : Thread nD τ).loc main_arg4))
        (m ((c.tc : Thread nD τ).loc main_arg5)) (m ((c.tc : Thread nD τ).loc main_arg2)) (m ((c.tc : Thread nD τ).loc main_arg3))
        (m ((c.tc : Thread nD τ).loc main_arg6)) (m ((c.tc : Thread nD τ).loc main_arg7)) (m ((c.tc : Thread nD τ).loc main_arg8))) := by
  unfold Value.res_main_v42 Tail.fno Tail.rst Tail.brA Tail.brB Tail.hno Tail.lgs
  rfl
end

theorem algebraic2 : Cert.algebraic_Kernel2Ideal_Reference2Ideal := by
  intro m g m' g' _ ha
  refine ⟨fun c => (Cert.Kernel2Ideal.Gen.dats m 0 c).arrAt 11 (Cert.Kernel2Ideal.cfgs 0).N, Cert.Kernel2Ideal.Value.run_blocks m g, ?_⟩
  refine (θ_run Cert.Reference2Ideal.defs _ _).mono (fun r h c => ⟨(h c).1.trans ((ref2_eq m' c).trans ?_), (h c).2⟩) (Cert.Reference2Ideal.Value.run m' g')
  obtain ⟨a0, a1, a2, a3, a4, a5, a6, a7, a8, a9⟩ := ha c
  refine Eq.trans ?_ (Cert.Kernel2Ideal.Tail.final m c).symm
  rw [a0, a1, a2, a3, a4, a5, a6, a7, a8, a9]
end Cert.Proof

end

end
-- ==== Proof.ProjRef.lean ====
module

public import proofs.«01_k».proof.Proof.Gen.Reference3Ideal
public import Idealize.ShloMosaic.Lib.Pointwise

/-! The results of the reference of the norm and projection of an even layer. -/

@[expose] public section

set_option maxRecDepth 16384
noncomputable section
namespace Cert.Reference3Ideal.Proj
open Idealize.ShloMosaic
open Cert.Reference3Ideal Cert.Reference3Ideal.Gen

variable (X : FVec Ideal S8x8192x1024 .f32) (G : FVec Ideal S1024 .f32) (W : FVec Ideal S1024x4128 .f32)

/-- The normed input. -/
def nrm : FVec Ideal S8x8192x1024 .f32 :=
  mulf (mulf X (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf X X) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 G))
/-- The whole product with the weights. -/
def prd : FVec Ideal S65536x4128 .f32 :=
  shapeCast _ (Host.dotGeneral dot_S8x8192x1024_S1024x4128_S8x8192x4128_2_0_01_1_n_n none (nrm X G) W) shapeCasts_S8x8192x4128_S65536x4128

/-- The product at a row and a column. -/
theorem prd_at (r : Fin 65536) (j : Fin 4128) : prd X G W (ix2 r j)
    = ∑ k : Fin 1024, nrm X G (ix3 (⟨r.val / 8192, by omega⟩ : Fin 8) (⟨r.val % 8192, by omega⟩ : Fin 8192) k) * W (ix2 k j) := by
  pointwise [prd]
/-- The normed input at an index. -/
theorem nrm_at (b : Fin 8) (s : Fin 8192) (k : Fin 1024) : nrm X G (ix3 b s k)
    = X (ix3 b s k) * Ideal.rsqrt (Ideal.div (∑ e : Fin 1024, X (ix3 b s e) * X (ix3 b s e)) (Ideal.ofBits .f32 0x44800000#32) + Ideal.ofBits .f32 0x358637BD#32)
      * G (ix1 k) := by
  pointwise [nrm]

/-- The result cut at column 0. -/
def cut9 : FVec Ideal S65536x512 .f32 := extractStridedSlice S65536x512 ![0, 0] (prd X G W) slices_S65536x4128_S65536x512_0_0
theorem cut9_at (r : Fin 65536) (j : Fin 512) : cut9 X G W (ix2 r j) = prd X G W (ix2 r ⟨0 + j.val, by omega⟩) := by
  pointwise [cut9]
/-- The result cut at column 512. -/
def cut10 : FVec Ideal S65536x512 .f32 := extractStridedSlice S65536x512 ![0, 512] (prd X G W) slices_S65536x4128_S65536x512_0_512
theorem cut10_at (r : Fin 65536) (j : Fin 512) : cut10 X G W (ix2 r j) = prd X G W (ix2 r ⟨512 + j.val, by omega⟩) := by
  pointwise [cut10]
/-- The result cut at column 1024. -/
def cut11 : FVec Ideal S65536x1024 .bf16 := truncf .bf16 (extractStridedSlice S65536x1024 ![0, 1024] (prd X G W) slices_S65536x4128_S65536x1024_0_1024) bitsLt_bf16_f32
theorem cut11_at (r : Fin 65536) (j : Fin 1024) : cut11 X G W (ix2 r j) = prd X G W (ix2 r ⟨1024 + j.val, by omega⟩) := by
  pointwise [cut11]
/-- The result cut at column 2048. -/
def cut12 : FVec Ideal S65536x1024 .bf16 := truncf .bf16 (extractStridedSlice S65536x1024 ![0, 2048] (prd X G W) slices_S65536x4128_S65536x1024_0_2048) bitsLt_bf16_f32
theorem cut12_at (r : Fin 65536) (j : Fin 1024) : cut12 X G W (ix2 r j) = prd X G W (ix2 r ⟨2048 + j.val, by omega⟩) := by
  pointwise [cut12]
/-- The result cut at column 3072. -/
def cut13 : FVec Ideal S65536x32 .bf16 := truncf .bf16 (extractStridedSlice S65536x32 ![0, 3072] (prd X G W) slices_S65536x4128_S65536x32_0_3072) bitsLt_bf16_f32
theorem cut13_at (r : Fin 65536) (j : Fin 32) : cut13 X G W (ix2 r j) = prd X G W (ix2 r ⟨3072 + j.val, by omega⟩) := by
  pointwise [cut13]
/-- The result cut at column 3104. -/
def cut14 : FVec Ideal S65536x512 .f32 := extractStridedSlice S65536x512 ![0, 3104] (prd X G W) slices_S65536x4128_S65536x512_0_3104
theorem cut14_at (r : Fin 65536) (j : Fin 512) : cut14 X G W (ix2 r j) = prd X G W (ix2 r ⟨3104 + j.val, by omega⟩) := by
  pointwise [cut14]
/-- The result cut at column 3616. -/
def cut15 : FVec Ideal S65536x512 .bf16 := truncf .bf16 (extractStridedSlice S65536x512 ![0, 3616] (prd X G W) slices_S65536x4128_S65536x512_0_3616) bitsLt_bf16_f32
theorem cut15_at (r : Fin 65536) (j : Fin 512) : cut15 X G W (ix2 r j) = prd X G W (ix2 r ⟨3616 + j.val, by omega⟩) := by
  pointwise [cut15]

end Cert.Reference3Ideal.Proj

end

end
-- ==== Proof.Proj.lean ====
module

public import proofs.«01_k».proof.Proof.Gen.Kernel3Ideal
public import proofs.«01_k».proof.Proof.Gen.Kernel3Ideal.Value
public import proofs.«01_k».proof.Proof.ProjRef
public import Idealize.ShloMosaic.Lib.Pipeline.ValueKit
public import Idealize.ShloMosaic.Lib.StableHlo.RunRead

/-! The norm and projection of an even layer, read at an index. -/

@[expose] public section

set_option maxRecDepth 16384
noncomputable section
namespace Cert.Kernel3Ideal.Proj
open Idealize.ShloMosaic
open Cert.Kernel3Ideal Cert.Kernel3Ideal.Gen Cert.Reference3Ideal.Proj

theorem pay5_at (x : FVec Ideal S1024x1024 .f32) (g : FVec Ideal S1x1024 .f32) (r k : Fin 1024) : k0_pay5 (F := Ideal) x g (ix2 r k)
    = x (ix2 r k) * Ideal.rsqrt (Ideal.div (∑ e : Fin 1024, x (ix2 r e) * x (ix2 r e)) (Ideal.ofBits .f32 0x44800000#32) + Ideal.ofBits .f32 0x358637BD#32)
      * g (ix2 0 k) := by
  pointwise [k0_pay5]

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_9.index t = ![t.val, 0] ∧ win0_3.index t = ![0, 0]
    ∧ win0_10.index t = ![t.val, 0] ∧ win0_4.index t = ![0, 0]
    ∧ win0_11.index t = ![t.val, 0] ∧ win0_5.index t = ![0, 0]
    ∧ win0_12.index t = ![t.val, 0] ∧ win0_6.index t = ![0, 0]
    ∧ win0_13.index t = ![t.val, 0] ∧ win0_7.index t = ![0, 0]
    ∧ win0_14.index t = ![t.val, 0] ∧ win0_8.index t = ![0, 0]
    ∧ win0_15.index t = ![t.val, 0] :=
  (by decide +kernel : ∀ t : Fin grid0.N, _)

theorem rd0 (c : Dev nD) (t : Fin cfg0.N) (r k : Fin 1024) : iblk m c 0 t (ix2 r k)
    = m ((c.tc : Thread nD τ).loc main_arg0) (ix3 (⟨(t.val * 1024 + r.val) / 8192, by have := t.isLt; have : cfg0.N = 64 := rfl; omega⟩ : Fin 8)
        (⟨(t.val * 1024 + r.val) % 8192, by omega⟩ : Fin 8192) k) := by
  blk_point [iblk, V, idx t]

theorem rd1 (c : Dev nD) (t : Fin cfg0.N) (r : Fin 1) (k : Fin 1024) : iblk m c 1 t (ix2 r k)
    = m ((c.tc : Thread nD τ).loc main_arg1) (ix1 k) := by
  blk_point [iblk, V, idx t]

/-- The normed row of point `t`. -/
theorem row (c : Dev nD) (t : Fin cfg0.N) (ht : t.val < 64) (r k : Fin 1024) :
    k0_pay5 (F := Ideal) (iblk m c 0 t) (iblk m c 1 t) (ix2 r k)
      = nrm (m ((c.tc : Thread nD τ).loc main_arg0)) (m ((c.tc : Thread nD τ).loc main_arg1))
          (ix3 (⟨(t.val * 1024 + r.val) / 8192, by omega⟩ : Fin 8) (⟨(t.val * 1024 + r.val) % 8192, by omega⟩ : Fin 8192) k) := by
  refine (pay5_at _ _ r k).trans ((nrm_at _ _ _ _ k).trans ?_).symm
  refine congrArg₂ (· * ·) (congrArg₂ (· * ·) (rd0 m c t r k).symm (congrArg _ (congrArg (· + _) (congrArg (Ideal.div · _)
    (Finset.sum_congr rfl fun e _ => congrArg₂ (· * ·) (rd0 m c t r e).symm (rd0 m c t r e).symm))))) (rd1 m c t 0 k).symm

theorem pay9_at (x : FVec Ideal S1024x1024 .f32) (g : FVec Ideal S1x1024 .f32) (w : FVec Ideal S1024x512 .bf16) (r : Fin 1024) (j : Fin 512) :
    k0_pay6 (F := Ideal) x g w (ix2 r j) = ∑ k : Fin 1024, k0_pay5 (F := Ideal) x g (ix2 r k) * w (ix2 k j) := by
  pointwise [k0_pay6]
theorem rd2 (c : Dev nD) (t : Fin cfg0.N) (r : Fin 1024) (j : Fin 512) : iblk m c 2 t (ix2 r j)
    = m ((c.tc : Thread nD τ).loc main_arg2) (ix2 r (⟨0 + j.val, by omega⟩ : Fin 4128)) := by
  blk_point [iblk, V, idx t]
/-- The call's result at window 9. -/
theorem final9 (c : Dev nD) : (dats m 0 c).arrAt 9 (cfgs 0).N
    = cut9 (m ((c.tc : Thread nD τ).loc main_arg0)) (m ((c.tc : Thread nD τ).loc main_arg1)) (m ((c.tc : Thread nD τ).loc main_arg2)) := by
  refine (dats m 0 c).arrAt_eq_of_covers 9 _ (by decide +kernel) fun t _ y => ?_
  blk_simp
  rw [after0_9]; frame_out
  have ht : t.val < 64 := lt_of_lt_of_eq t.isLt N_0
  obtain ⟨r, j, rfl⟩ : ∃ (r : Fin 1024) (j : Fin 512), y = ix2 r j := ⟨_, _, eq_ix2 y⟩
  refine (pay9_at (iblk m c 0 t) (iblk m c 1 t) (iblk m c 2 t) r j).trans ((Finset.sum_congr rfl fun k _ => congrArg₂ (· * ·) (row m c t ht r k) (rd2 m c t k j)).trans ?_)
  refine ((congrArg _ ?_).trans ((cut9_at _ _ _ ⟨t.val * 1024 + r.val, by omega⟩ j).trans (prd_at _ _ _ _ _))).symm
  refine funext fun a => Fin.ext ?_
  fin_cases a <;> (blk_simp [idx t] <;> rfl)

theorem pay10_at (x : FVec Ideal S1024x1024 .f32) (g : FVec Ideal S1x1024 .f32) (w : FVec Ideal S1024x512 .bf16) (r : Fin 1024) (j : Fin 512) :
    k0_pay7 (F := Ideal) x g w (ix2 r j) = ∑ k : Fin 1024, k0_pay5 (F := Ideal) x g (ix2 r k) * w (ix2 k j) := by
  pointwise [k0_pay7]
theorem rd3 (c : Dev nD) (t : Fin cfg0.N) (r : Fin 1024) (j : Fin 512) : iblk m c 3 t (ix2 r j)
    = m ((c.tc : Thread nD τ).loc main_arg2) (ix2 r (⟨512 + j.val, by omega⟩ : Fin 4128)) := by
  blk_point [iblk, V, idx t]
/-- The call's result at window 10. -/
theorem final10 (c : Dev nD) : (dats m 0 c).arrAt 10 (cfgs 0).N
    = cut10 (m ((c.tc : Thread nD τ).loc main_arg0)) (m ((c.tc : Thread nD τ).loc main_arg1)) (m ((c.tc : Thread nD τ).loc main_arg2)) := by
  refine (dats m 0 c).arrAt_eq_of_covers 10 _ (by decide +kernel) fun t _ y => ?_
  blk_simp
  rw [after0_10]; frame_out
  have ht : t.val < 64 := lt_of_lt_of_eq t.isLt N_0
  obtain ⟨r, j, rfl⟩ : ∃ (r : Fin 1024) (j : Fin 512), y = ix2 r j := ⟨_, _, eq_ix2 y⟩
  refine (pay10_at (iblk m c 0 t) (iblk m c 1 t) (iblk m c 3 t) r j).trans ((Finset.sum_congr rfl fun k _ => congrArg₂ (· * ·) (row m c t ht r k) (rd3 m c t k j)).trans ?_)
  refine ((congrArg _ ?_).trans ((cut10_at _ _ _ ⟨t.val * 1024 + r.val, by omega⟩ j).trans (prd_at _ _ _ _ _))).symm
  refine funext fun a => Fin.ext ?_
  fin_cases a <;> (blk_simp [idx t] <;> rfl)

theorem pay11_at (x : FVec Ideal S1024x1024 .f32) (g : FVec Ideal S1x1024 .f32) (w : FVec Ideal S1024x1024 .bf16) (r : Fin 1024) (j : Fin 1024) :
    k0_pay8 (F := Ideal) x g w (ix2 r j) = ∑ k : Fin 1024, k0_pay5 (F := Ideal) x g (ix2 r k) * w (ix2 k j) := by
  pointwise [k0_pay8]
theorem rd4 (c : Dev nD) (t : Fin cfg0.N) (r : Fin 1024) (j : Fin 1024) : iblk m c 4 t (ix2 r j)
    = m ((c.tc : Thread nD τ).loc main_arg2) (ix2 r (⟨1024 + j.val, by omega⟩ : Fin 4128)) := by
  blk_point [iblk, V, idx t]
/-- The call's result at window 11. -/
theorem final11 (c : Dev nD) : (dats m 0 c).arrAt 11 (cfgs 0).N
    = cut11 (m ((c.tc : Thread nD τ).loc main_arg0)) (m ((c.tc : Thread nD τ).loc main_arg1)) (m ((c.tc : Thread nD τ).loc main_arg2)) := by
  refine (dats m 0 c).arrAt_eq_of_covers 11 _ (by decide +kernel) fun t _ y => ?_
  blk_simp
  rw [after0_11]; frame_out
  have ht : t.val < 64 := lt_of_lt_of_eq t.isLt N_0
  obtain ⟨r, j, rfl⟩ : ∃ (r : Fin 1024) (j : Fin 1024), y = ix2 r j := ⟨_, _, eq_ix2 y⟩
  refine (pay11_at (iblk m c 0 t) (iblk m c 1 t) (iblk m c 4 t) r j).trans ((Finset.sum_congr rfl fun k _ => congrArg₂ (· * ·) (row m c t ht r k) (rd4 m c t k j)).trans ?_)
  refine ((congrArg _ ?_).trans ((cut11_at _ _ _ ⟨t.val * 1024 + r.val, by omega⟩ j).trans (prd_at _ _ _ _ _))).symm
  refine funext fun a => Fin.ext ?_
  fin_cases a <;> (blk_simp [idx t] <;> rfl)

theorem pay12_at (x : FVec Ideal S1024x1024 .f32) (g : FVec Ideal S1x1024 .f32) (w : FVec Ideal S1024x1024 .bf16) (r : Fin 1024) (j : Fin 1024) :
    k0_pay1 (F := Ideal) (k0_pay5 x g) (k0_pay9 w) (ix2 r j) = ∑ k : Fin 1024, k0_pay5 (F := Ideal) x g (ix2 r k) * w (ix2 k j) := by
  pointwise [k0_pay1, k0_pay9]
theorem rd5 (c : Dev nD) (t : Fin cfg0.N) (r : Fin 1024) (j : Fin 1024) : iblk m c 5 t (ix2 r j)
    = m ((c.tc : Thread nD τ).loc main_arg2) (ix2 r (⟨2048 + j.val, by omega⟩ : Fin 4128)) := by
  blk_point [iblk, V, idx t]
/-- The call's result at window 12. -/
theorem final12 (c : Dev nD) : (dats m 0 c).arrAt 12 (cfgs 0).N
    = cut12 (m ((c.tc : Thread nD τ).loc main_arg0)) (m ((c.tc : Thread nD τ).loc main_arg1)) (m ((c.tc : Thread nD τ).loc main_arg2)) := by
  refine (dats m 0 c).arrAt_eq_of_covers 12 _ (by decide +kernel) fun t _ y => ?_
  blk_simp
  rw [after0_12]; frame_out [k0_pay10]
  have ht : t.val < 64 := lt_of_lt_of_eq t.isLt N_0
  obtain ⟨r, j, rfl⟩ : ∃ (r : Fin 1024) (j : Fin 1024), y = ix2 r j := ⟨_, _, eq_ix2 y⟩
  refine (pay12_at (iblk m c 0 t) (iblk m c 1 t) (iblk m c 5 t) r j).trans ((Finset.sum_congr rfl fun k _ => congrArg₂ (· * ·) (row m c t ht r k) (rd5 m c t k j)).trans ?_)
  refine ((congrArg _ ?_).trans ((cut12_at _ _ _ ⟨t.val * 1024 + r.val, by omega⟩ j).trans (prd_at _ _ _ _ _))).symm
  refine funext fun a => Fin.ext ?_
  fin_cases a <;> (blk_simp [idx t] <;> rfl)

theorem pay13_at (x : FVec Ideal S1024x1024 .f32) (g : FVec Ideal S1x1024 .f32) (w : FVec Ideal S1024x32 .bf16) (r : Fin 1024) (j : Fin 32) :
    k0_pay2 (F := Ideal) (k0_pay5 x g) w (ix2 r j) = ∑ k : Fin 1024, k0_pay5 (F := Ideal) x g (ix2 r k) * w (ix2 k j) := by
  pointwise [k0_pay2]
theorem rd6 (c : Dev nD) (t : Fin cfg0.N) (r : Fin 1024) (j : Fin 32) : iblk m c 6 t (ix2 r j)
    = m ((c.tc : Thread nD τ).loc main_arg2) (ix2 r (⟨3072 + j.val, by omega⟩ : Fin 4128)) := by
  blk_point [iblk, V, idx t]
/-- The call's result at window 13. -/
theorem final13 (c : Dev nD) : (dats m 0 c).arrAt 13 (cfgs 0).N
    = cut13 (m ((c.tc : Thread nD τ).loc main_arg0)) (m ((c.tc : Thread nD τ).loc main_arg1)) (m ((c.tc : Thread nD τ).loc main_arg2)) := by
  refine (dats m 0 c).arrAt_eq_of_covers 13 _ (by decide +kernel) fun t _ y => ?_
  blk_simp
  rw [after0_13]; frame_out [k0_pay10]
  have ht : t.val < 64 := lt_of_lt_of_eq t.isLt N_0
  obtain ⟨r, j, rfl⟩ : ∃ (r : Fin 1024) (j : Fin 32), y = ix2 r j := ⟨_, _, eq_ix2 y⟩
  refine (pay13_at (iblk m c 0 t) (iblk m c 1 t) (iblk m c 6 t) r j).trans ((Finset.sum_congr rfl fun k _ => congrArg₂ (· * ·) (row m c t ht r k) (rd6 m c t k j)).trans ?_)
  refine ((congrArg _ ?_).trans ((cut13_at _ _ _ ⟨t.val * 1024 + r.val, by omega⟩ j).trans (prd_at _ _ _ _ _))).symm
  refine funext fun a => Fin.ext ?_
  fin_cases a <;> (blk_simp [idx t] <;> rfl)

theorem pay14_at (x : FVec Ideal S1024x1024 .f32) (g : FVec Ideal S1x1024 .f32) (w : FVec Ideal S1024x512 .bf16) (r : Fin 1024) (j : Fin 512) :
    k0_pay3 (F := Ideal) (k0_pay5 x g) w (ix2 r j) = ∑ k : Fin 1024, k0_pay5 (F := Ideal) x g (ix2 r k) * w (ix2 k j) := by
  pointwise [k0_pay3]
theorem rd7 (c : Dev nD) (t : Fin cfg0.N) (r : Fin 1024) (j : Fin 512) : iblk m c 7 t (ix2 r j)
    = m ((c.tc : Thread nD τ).loc main_arg2) (ix2 r (⟨3104 + j.val, by omega⟩ : Fin 4128)) := by
  blk_point [iblk, V, idx t]
/-- The call's result at window 14. -/
theorem final14 (c : Dev nD) : (dats m 0 c).arrAt 14 (cfgs 0).N
    = cut14 (m ((c.tc : Thread nD τ).loc main_arg0)) (m ((c.tc : Thread nD τ).loc main_arg1)) (m ((c.tc : Thread nD τ).loc main_arg2)) := by
  refine (dats m 0 c).arrAt_eq_of_covers 14 _ (by decide +kernel) fun t _ y => ?_
  blk_simp
  rw [after0_14]; frame_out [k0_pay10]
  have ht : t.val < 64 := lt_of_lt_of_eq t.isLt N_0
  obtain ⟨r, j, rfl⟩ : ∃ (r : Fin 1024) (j : Fin 512), y = ix2 r j := ⟨_, _, eq_ix2 y⟩
  refine (pay14_at (iblk m c 0 t) (iblk m c 1 t) (iblk m c 7 t) r j).trans ((Finset.sum_congr rfl fun k _ => congrArg₂ (· * ·) (row m c t ht r k) (rd7 m c t k j)).trans ?_)
  refine ((congrArg _ ?_).trans ((cut14_at _ _ _ ⟨t.val * 1024 + r.val, by omega⟩ j).trans (prd_at _ _ _ _ _))).symm
  refine funext fun a => Fin.ext ?_
  fin_cases a <;> (blk_simp [idx t] <;> rfl)

theorem pay15_at (x : FVec Ideal S1024x1024 .f32) (g : FVec Ideal S1x1024 .f32) (w : FVec Ideal S1024x512 .bf16) (r : Fin 1024) (j : Fin 512) :
    k0_pay4 (F := Ideal) (k0_pay5 x g) w (ix2 r j) = ∑ k : Fin 1024, k0_pay5 (F := Ideal) x g (ix2 r k) * w (ix2 k j) := by
  pointwise [k0_pay4]
theorem rd8 (c : Dev nD) (t : Fin cfg0.N) (r : Fin 1024) (j : Fin 512) : iblk m c 8 t (ix2 r j)
    = m ((c.tc : Thread nD τ).loc main_arg2) (ix2 r (⟨3616 + j.val, by omega⟩ : Fin 4128)) := by
  blk_point [iblk, V, idx t]
/-- The call's result at window 15. -/
theorem final15 (c : Dev nD) : (dats m 0 c).arrAt 15 (cfgs 0).N
    = cut15 (m ((c.tc : Thread nD τ).loc main_arg0)) (m ((c.tc : Thread nD τ).loc main_arg1)) (m ((c.tc : Thread nD τ).loc main_arg2)) := by
  refine (dats m 0 c).arrAt_eq_of_covers 15 _ (by decide +kernel) fun t _ y => ?_
  blk_simp
  rw [after0_15]; frame_out [k0_pay10]
  have ht : t.val < 64 := lt_of_lt_of_eq t.isLt N_0
  obtain ⟨r, j, rfl⟩ : ∃ (r : Fin 1024) (j : Fin 512), y = ix2 r j := ⟨_, _, eq_ix2 y⟩
  refine (pay15_at (iblk m c 0 t) (iblk m c 1 t) (iblk m c 8 t) r j).trans ((Finset.sum_congr rfl fun k _ => congrArg₂ (· * ·) (row m c t ht r k) (rd8 m c t k j)).trans ?_)
  refine ((congrArg _ ?_).trans ((cut15_at _ _ _ ⟨t.val * 1024 + r.val, by omega⟩ j).trans (prd_at _ _ _ _ _))).symm
  refine funext fun a => Fin.ext ?_
  fin_cases a <;> (blk_simp [idx t] <;> rfl)

end Cert.Kernel3Ideal.Proj

end

end
-- ==== Proof.Certs3.lean ====
module

public import proofs.«01_k».proof.Defs
public import proofs.«01_k».proof.Proof.Proj
public import proofs.«01_k».proof.Proof.Gen.Kernel3
public import proofs.«01_k».proof.Proof.Gen.Kernel3.Frame
public import proofs.«01_k».proof.Proof.Gen.Reference3Ideal.Run
public import Idealize.ShloMosaic.Lib.Claim

/-! The norm and projection of an even layer: the frames and the equality with the reference. -/

@[expose] public section

set_option maxRecDepth 16384
noncomputable section
namespace Cert.Proof
open Idealize.ShloMosaic Idealize.SL.Sem

theorem frame_kernel3 : Cert.quiescent_Kernel3 := fun m ρ _ => Cert.Kernel3.Gen.frame m ρ
theorem frame_ideal3 : Cert.quiescent_Kernel3Ideal := fun m ρ _ => Cert.Kernel3Ideal.Gen.frame m ρ
theorem frame_ref3 : Cert.quiescent_Reference3Ideal := by
  intro m g _
  hlo_run
  · exact fun _ => ⟨trivial, trivial, trivial⟩
  · exact Idealize.ShloMosaic.sem_eq_zero_of_no_sems (by decide) _
set_option maxHeartbeats 4000000 in
theorem algebraic3 : Cert.algebraic_Kernel3Ideal_Reference3Ideal := by
  pair_intro
  · run_from Cert.Kernel3Ideal.Gen.run_main m g
  · hlo_run
    · exact (Cert.Kernel3Ideal.Proj.final9 m c).symm
    · exact (Cert.Kernel3Ideal.Proj.final10 m c).symm
    · exact (Cert.Kernel3Ideal.Proj.final11 m c).symm
    · exact (Cert.Kernel3Ideal.Proj.final12 m c).symm
    · exact (Cert.Kernel3Ideal.Proj.final13 m c).symm
    · exact (Cert.Kernel3Ideal.Proj.final14 m c).symm
    · exact (Cert.Kernel3Ideal.Proj.final15 m c).symm
end Cert.Proof

end

end
-- ==== Proof.lean ====
module

public import proofs.«01_k».proof.Defs
public import proofs.«01_k».proof.Proof.Value
public import proofs.«01_k».proof.Proof.Finite
public import proofs.«01_k».proof.Proof.Certs2
public import proofs.«01_k».proof.Proof.Certs3
public import proofs.«01_k».proof.Proof.Gen.Kernel
public import proofs.«01_k».proof.Proof.Gen.KernelIdeal
public import proofs.«01_k».proof.Proof.Gen.ReferenceIdeal
public import Idealize.ShloMosaic.Lib.Claim

/-! The certificate: both frames of the kernel from one run, the reference's frame, and the equality with the reference. -/

@[expose] public section

set_option maxRecDepth 16384
noncomputable section
namespace Cert.Proof
open Idealize.ShloMosaic Idealize.SL.Sem

theorem defs_eq : @Cert.Kernel.defs Bits _ _ = Cert.KernelIdeal.defs := by sl_kernel_rfl
theorem frame_kernel : Cert.quiescent_Kernel := by
  intro m ρ _
  rw [defs_eq]
  exact (θ_run Cert.KernelIdeal.defs _ _).mono (fun _ h => h) (Cert.KernelIdeal.Att.quiet (F := Bits) m ρ)
theorem frame_ideal : Cert.quiescent_KernelIdeal := fun m ρ _ => Cert.KernelIdeal.Att.quiet (F := Ideal) m ρ
theorem frame_ref : Cert.quiescent_ReferenceIdeal := by
  intro m g _
  hlo_run
  · exact fun _ => ⟨trivial, trivial, trivial, trivial, trivial⟩
  · exact Idealize.ShloMosaic.sem_eq_zero_of_no_sems (by decide) _
theorem algebraic : Cert.algebraic_KernelIdeal_ReferenceIdeal_pre_finite_scores (hPre_finite_scores := Cert.Pre_finite_scores.facts) := by
  pair_intro
  · run_from Cert.KernelIdeal.Att.run_frame m g
  · hlo_run
    obtain ⟨h0, h1, h2, h3⟩ := @Cert.Pre_finite_scores.reals Cert.Pre_finite_scores.facts _ _ _ _ _ (hpre c)
    exact (Cert.KernelIdeal.Att.final m c h0 h1 h2 h3).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite_scores.facts,
    frame_kernel, frame_ideal, fun m g _ => frame_ideal m g trivial, frame_ref, fun m g _ => frame_ref m g trivial,
    frame_kernel2, frame_ideal2, frame_ref2, frame_kernel3, frame_ideal3, frame_ref3, trivial, algebraic, trivial, algebraic2, trivial, algebraic3⟩
end Cert.Proof

end

end
